-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S4x192x1536 : Shape := ⟨3, ![4, 192, 1536]⟩
abbrev S3 : Shape := ⟨1, ![3]⟩
abbrev S_ : Shape := ⟨0, ![]⟩
abbrev S192x768 : Shape := ⟨2, ![192, 768]⟩
abbrev S192x1536 : Shape := ⟨2, ![192, 1536]⟩
abbrev S1x192x1536 : Shape := ⟨3, ![1, 192, 1536]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .f32⟩
  | .local _ .vmem, ⟨0, _⟩ => ⟨S1536x768, .bf16⟩
  | .local _ .vmem, ⟨1, _⟩ => ⟨S768x1536, .bf16⟩
  | .local _ .vmem, ⟨2, _⟩ => ⟨S1536x1536, .f32⟩
  | .local _ .vmem, ⟨3, _⟩ => ⟨S4x192x1536, .bf16⟩
  | .local _ .vmem, ⟨4, _⟩ => ⟨S4x192x1536, .bf16⟩
  | .local _ .vmem, ⟨5, _⟩ => ⟨S4x192x1536, .bf16⟩
  | .local _ .vmem, ⟨6, _⟩ => ⟨S4x192x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32 : BitVec 32 := 192#32
  let v32 : BitVec 32 := Scalar.muli v2 c192_i32
  let v33 : Index := Scalar.indexCast v32
  let c0_20 : Index := 0#32
  ![v33.toNat, 0]
def k0_off2 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_24 : BitVec 32 := 192#32
  let v41 : BitVec 32 := Scalar.muli v2 c192_i32_24
  let v42 : BitVec 32 := Scalar.addi c768_i32 v41
  let v43 : Index := Scalar.indexCast v42
  let c0_25 : Index := 0#32
  ![v43.toNat, 0]
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v51 : BitVec 32 := Scalar.muli v24 c1_i32_34
  let v52 : BitVec 32 := Scalar.addi c0_i32_35 v51
  v52.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v61 : BitVec 32 := Scalar.muli v13 c1_i32_44
  let v62 : BitVec 32 := Scalar.addi c0_i32_45 v61
  v62.toNat
def k0_off3 (d0 : Dev nD) (c0_i32_50 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v71 : BitVec 32 := Scalar.subi v2 c0_i32_50
  let c1_i32_51 : BitVec 32 := 1#32
  let v72 : BitVec 32 := Scalar.subi v71 c1_i32_51
  let c4_i32_52 : BitVec 32 := 4#32
  let c0_i32_53 : BitVec 32 := 0#32
  let v73 : BitVec 1 := Scalar.cmpi .eq c4_i32_52 c0_i32_53
  let c1_i32_54 : BitVec 32 := 1#32
  let v74 : BitVec 32 := Scalar.select v73 c1_i32_54 c4_i32_52
  let v75 : BitVec 32 := Scalar.remsi v72 v74
  let c0_i32_56 : BitVec 32 := 0#32
  let v77 : BitVec 1 := Scalar.cmpi .slt v75 c0_i32_56
  let c0_i32_57 : BitVec 32 := 0#32
  let v78 : BitVec 1 := Scalar.cmpi .slt v74 c0_i32_57
  let v79 : BitVec 1 := Scalar.xori v77 v78
  let c0_i32_55 : BitVec 32 := 0#32
  let v76 : BitVec 1 := Scalar.cmpi .ne v75 c0_i32_55
  let v80 : BitVec 1 := Scalar.andi v79 v76
  let v81 : BitVec 32 := Scalar.addi v75 v74
  let v82 : BitVec 32 := Scalar.select v80 v81 v75
  let c192_i32_66 : BitVec 32 := 192#32
  let v95 : BitVec 32 := Scalar.muli v82 c192_i32_66
  let v96 : Index := Scalar.indexCast v95
  let c0_67 : Index := 0#32
  ![v96.toNat, 0]
def k0_off4 (d0 : Dev nD) (c0_i32_58 : BitVec 32) : Fin 2 → Nat :=
  let c768_i32_70 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v83 : BitVec 32 := Scalar.addi v2 c0_i32_58
  let c1_i32_59 : BitVec 32 := 1#32
  let v84 : BitVec 32 := Scalar.addi v83 c1_i32_59
  let c4_i32_60 : BitVec 32 := 4#32
  let c0_i32_61 : BitVec 32 := 0#32
  let v85 : BitVec 1 := Scalar.cmpi .eq c4_i32_60 c0_i32_61
  let c1_i32_62 : BitVec 32 := 1#32
  let v86 : BitVec 32 := Scalar.select v85 c1_i32_62 c4_i32_60
  let v87 : BitVec 32 := Scalar.remsi v84 v86
  let c0_i32_64 : BitVec 32 := 0#32
  let v89 : BitVec 1 := Scalar.cmpi .slt v87 c0_i32_64
  let c0_i32_65 : BitVec 32 := 0#32
  let v90 : BitVec 1 := Scalar.cmpi .slt v86 c0_i32_65
  let v91 : BitVec 1 := Scalar.xori v89 v90
  let c0_i32_63 : BitVec 32 := 0#32
  let v88 : BitVec 1 := Scalar.cmpi .ne v87 c0_i32_63
  let v92 : BitVec 1 := Scalar.andi v91 v88
  let v93 : BitVec 32 := Scalar.addi v87 v86
  let v94 : BitVec 32 := Scalar.select v92 v93 v87
  let c192_i32_69 : BitVec 32 := 192#32
  let v100 : BitVec 32 := Scalar.muli v94 c192_i32_69
  let v101 : BitVec 32 := Scalar.addi c768_i32_70 v100
  let v102 : Index := Scalar.indexCast v101
  let c0_71 : Index := 0#32
  ![v102.toNat, 0]
def k0_dev5 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_126 : BitVec 32 := 1#32
  let v150 : BitVec 32 := Scalar.muli v24 c1_i32_126
  let v151 : BitVec 32 := Scalar.addi c0_i32_127 v150
  v151.toNat
def k0_dev6 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_136 : BitVec 32 := 1#32
  let v160 : BitVec 32 := Scalar.muli v13 c1_i32_136
  let v161 : BitVec 32 := Scalar.addi c0_i32_137 v160
  v161.toNat
def k0_dev7 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_217 : BitVec 32 := 1#32
  let v249 : BitVec 32 := Scalar.muli v24 c1_i32_217
  let v250 : BitVec 32 := Scalar.addi c0_i32_218 v249
  v250.toNat
def k0_dev8 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_227 : BitVec 32 := 1#32
  let v259 : BitVec 32 := Scalar.muli v13 c1_i32_227
  let v260 : BitVec 32 := Scalar.addi c0_i32_228 v259
  v260.toNat
def k0_dev9 (d0 : Dev nD) : Nat :=
  let c0_i32_310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_309 : BitVec 32 := 1#32
  let v348 : BitVec 32 := Scalar.muli v24 c1_i32_309
  let v349 : BitVec 32 := Scalar.addi c0_i32_310 v348
  v349.toNat
def k0_dev10 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_319 : BitVec 32 := 1#32
  let v358 : BitVec 32 := Scalar.muli v13 c1_i32_319
  let v359 : BitVec 32 := Scalar.addi c0_i32_320 v358
  v359.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_233 : BitVec 32 := 2#32
  let v269 : BitVec 32 := Scalar.subi v2 c2_i32_233
  let c1_i32_234 : BitVec 32 := 1#32
  let v270 : BitVec 32 := Scalar.subi v269 c1_i32_234
  let c4_i32_235 : BitVec 32 := 4#32
  let c0_i32_236 : BitVec 32 := 0#32
  let v271 : BitVec 1 := Scalar.cmpi .eq c4_i32_235 c0_i32_236
  let c1_i32_237 : BitVec 32 := 1#32
  let v272 : BitVec 32 := Scalar.select v271 c1_i32_237 c4_i32_235
  let v273 : BitVec 32 := Scalar.remsi v270 v272
  let c0_i32_239 : BitVec 32 := 0#32
  let v275 : BitVec 1 := Scalar.cmpi .slt v273 c0_i32_239
  let c0_i32_240 : BitVec 32 := 0#32
  let v276 : BitVec 1 := Scalar.cmpi .slt v272 c0_i32_240
  let v277 : BitVec 1 := Scalar.xori v275 v276
  let c0_i32_238 : BitVec 32 := 0#32
  let v274 : BitVec 1 := Scalar.cmpi .ne v273 c0_i32_238
  let v278 : BitVec 1 := Scalar.andi v277 v274
  let v279 : BitVec 32 := Scalar.addi v273 v272
  let v280 : BitVec 32 := Scalar.select v278 v279 v273
  let c192_i32_327 : BitVec 32 := 192#32
  let v374 : BitVec 32 := Scalar.muli v280 c192_i32_327
  let v375 : Index := Scalar.indexCast v374
  let c0_328 : Index := 0#32
  ![v375.toNat, 0]
def k0_off6 (d0 : Dev nD) : Fin 2 → Nat :=
  let c768_i32_332 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_241 : BitVec 32 := 2#32
  let v281 : BitVec 32 := Scalar.addi v2 c2_i32_241
  let c1_i32_242 : BitVec 32 := 1#32
  let v282 : BitVec 32 := Scalar.addi v281 c1_i32_242
  let c4_i32_243 : BitVec 32 := 4#32
  let c0_i32_244 : BitVec 32 := 0#32
  let v283 : BitVec 1 := Scalar.cmpi .eq c4_i32_243 c0_i32_244
  let c1_i32_245 : BitVec 32 := 1#32
  let v284 : BitVec 32 := Scalar.select v283 c1_i32_245 c4_i32_243
  let v285 : BitVec 32 := Scalar.remsi v282 v284
  let c0_i32_247 : BitVec 32 := 0#32
  let v287 : BitVec 1 := Scalar.cmpi .slt v285 c0_i32_247
  let c0_i32_248 : BitVec 32 := 0#32
  let v288 : BitVec 1 := Scalar.cmpi .slt v284 c0_i32_248
  let v289 : BitVec 1 := Scalar.xori v287 v288
  let c0_i32_246 : BitVec 32 := 0#32
  let v286 : BitVec 1 := Scalar.cmpi .ne v285 c0_i32_246
  let v290 : BitVec 1 := Scalar.andi v289 v286
  let v291 : BitVec 32 := Scalar.addi v285 v284
  let v292 : BitVec 32 := Scalar.select v290 v291 v285
  let c192_i32_331 : BitVec 32 := 192#32
  let v383 : BitVec 32 := Scalar.muli v292 c192_i32_331
  let v384 : BitVec 32 := Scalar.addi c768_i32_332 v383
  let v385 : Index := Scalar.indexCast v384
  let c0_333 : Index := 0#32
  ![v385.toNat, 0]
def k0_dev11 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_376 : BitVec 32 := 1#32
  let v415 : BitVec 32 := Scalar.muli v24 c1_i32_376
  let v416 : BitVec 32 := Scalar.addi c0_i32_377 v415
  v416.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_386 : BitVec 32 := 1#32
  let v425 : BitVec 32 := Scalar.muli v13 c1_i32_386
  let v426 : BitVec 32 := Scalar.addi c0_i32_387 v425
  v426.toNat
def k0_off7 (d0 : Dev nD) (c0_i32_392 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v435 : BitVec 32 := Scalar.subi v2 c0_i32_392
  let c4_i32_393 : BitVec 32 := 4#32
  let c0_i32_394 : BitVec 32 := 0#32
  let v436 : BitVec 1 := Scalar.cmpi .eq c4_i32_393 c0_i32_394
  let c1_i32_395 : BitVec 32 := 1#32
  let v437 : BitVec 32 := Scalar.select v436 c1_i32_395 c4_i32_393
  let v438 : BitVec 32 := Scalar.remsi v435 v437
  let c0_i32_397 : BitVec 32 := 0#32
  let v440 : BitVec 1 := Scalar.cmpi .slt v438 c0_i32_397
  let c0_i32_398 : BitVec 32 := 0#32
  let v441 : BitVec 1 := Scalar.cmpi .slt v437 c0_i32_398
  let v442 : BitVec 1 := Scalar.xori v440 v441
  let c0_i32_396 : BitVec 32 := 0#32
  let v439 : BitVec 1 := Scalar.cmpi .ne v438 c0_i32_396
  let v443 : BitVec 1 := Scalar.andi v442 v439
  let v444 : BitVec 32 := Scalar.addi v438 v437
  let v445 : BitVec 32 := Scalar.select v443 v444 v438
  let c192_i32_411 : BitVec 32 := 192#32
  let v466 : BitVec 32 := Scalar.muli v445 c192_i32_411
  let v467 : Index := Scalar.indexCast v466
  let c0_412 : Index := 0#32
  ![v467.toNat, 0]
def k0_off8 (d0 : Dev nD) (c0_i32_399 : BitVec 32) : Fin 2 → Nat :=
  let c768_i32_419 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v446 : BitVec 32 := Scalar.addi v2 c0_i32_399
  let c4_i32_400 : BitVec 32 := 4#32
  let c0_i32_401 : BitVec 32 := 0#32
  let v447 : BitVec 1 := Scalar.cmpi .eq c4_i32_400 c0_i32_401
  let c1_i32_402 : BitVec 32 := 1#32
  let v448 : BitVec 32 := Scalar.select v447 c1_i32_402 c4_i32_400
  let v449 : BitVec 32 := Scalar.remsi v446 v448
  let c0_i32_404 : BitVec 32 := 0#32
  let v451 : BitVec 1 := Scalar.cmpi .slt v449 c0_i32_404
  let c0_i32_405 : BitVec 32 := 0#32
  let v452 : BitVec 1 := Scalar.cmpi .slt v448 c0_i32_405
  let v453 : BitVec 1 := Scalar.xori v451 v452
  let c0_i32_403 : BitVec 32 := 0#32
  let v450 : BitVec 1 := Scalar.cmpi .ne v449 c0_i32_403
  let v454 : BitVec 1 := Scalar.andi v453 v450
  let v455 : BitVec 32 := Scalar.addi v449 v448
  let v456 : BitVec 32 := Scalar.select v454 v455 v449
  let c192_i32_418 : BitVec 32 := 192#32
  let v478 : BitVec 32 := Scalar.muli v456 c192_i32_418
  let v479 : BitVec 32 := Scalar.addi c768_i32_419 v478
  let v480 : Index := Scalar.indexCast v479
  let c0_420 : Index := 0#32
  ![v480.toNat, 0]
def k0_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_463 : BitVec 32 := 1#32
  let v510 : BitVec 32 := Scalar.muli v24 c1_i32_463
  let v511 : BitVec 32 := Scalar.addi c0_i32_464 v510
  v511.toNat
def k0_dev14 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_473 : BitVec 32 := 1#32
  let v520 : BitVec 32 := Scalar.muli v13 c1_i32_473
  let v521 : BitVec 32 := Scalar.addi c0_i32_474 v520
  v521.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S3072x1536, .bf16⟩
  | .hbm, ⟨2, _⟩ => ⟨S1536x1536, .f32⟩
  | .hbm, ⟨3, _⟩ => ⟨S1536x1536, .bf16⟩
  | .hbm, ⟨4, _⟩ => ⟨S1536x1536, .bf16⟩
  | .hbm, ⟨5, _⟩ => ⟨S1536x1536, .bf16⟩
  | .hbm, ⟨6, _⟩ => ⟨S_, .bf16⟩
  | .hbm, ⟨7, _⟩ => ⟨S1536x1536, .bf16⟩
  | .hbm, ⟨8, _⟩ => ⟨S1536x1536, .bf16⟩
  | .hbm, ⟨9, _⟩ => ⟨S1536x1536, .bf16⟩
  | .hbm, ⟨10, _⟩ => ⟨S1536x1536, .f32⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdealProto.lean ====
/-
# 01_k — the protocol of the kernel: ring, buffers, cells, contents, schedule, dues and levels

Four devices in a ring. Each holds four scratch buffers of four slots, 192 rows a slot: buffers 0 and 1 carry the partial
sums (0 travels to the next device, 1 to the previous one), buffers 2 and 3 carry the finished blocks the same two ways.
Transfer `(b, h)` moves slot `h` of buffer `b` of a device into slot `h + 1` of buffer `b` of its neighbour; there are
twelve per device, each with a send cell and a receive cell of its own, and before the first of them every device tells both
neighbours on the barrier semaphore that their slots 1, 2, 3 may be filled.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.MemrefSat
public import Idealize.ShloMosaic.Lib.Writes
public import Idealize.ShloMosaic.Lib.WritesUnit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the ring's own, duties named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring -/

set_option backward.proofsInPublic true in
/-- The next device around the ring. -/
def nxt (c : Dev nD) : Dev nD := ⟨(c.val + 1) % 4, Nat.mod_lt _ (by decide)⟩
set_option backward.proofsInPublic true in
/-- The device before it. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where transfers of buffer `b` go: buffers 0 and 2 to the next device, 1 and 3 to the previous. -/
def dst : Fin 4 → Dev nD → Dev nD
  | 0 => nxt | 1 => prv | 2 => nxt | 3 => prv
/-- Where they come from. -/
def frm : Fin 4 → Dev nD → Dev nD
  | 0 => prv | 1 => nxt | 2 => prv | 3 => nxt

theorem frm_dst (b : Fin 4) (c : Dev nD) : frm b (dst b c) = c := by
  fin_cases b
  · exact prv_nxt c
  · exact nxt_prv c
  · exact prv_nxt c
  · exact nxt_prv c
theorem dst_frm (b : Fin 4) (c : Dev nD) : dst b (frm b c) = c := by
  fin_cases b
  · exact nxt_prv c
  · exact prv_nxt c
  · exact nxt_prv c
  · exact prv_nxt c

/-- The transfers of buffer `b` as a permutation of the devices. -/
def dstEquiv (b : Fin 4) : Dev nD ≃ Dev nD := ⟨dst b, frm b, frm_dst b, dst_frm b⟩
def nxtEquiv : Dev nD ≃ Dev nD := ⟨nxt, prv, prv_nxt, nxt_prv⟩

/-- The device-id chains of the kernel's two signals and twelve transfers. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = dst 0 c := by revert c; decide +kernel
theorem dev4_eq (c : Dev nD) : (⟨k0_dev4 c, k0_dev4_lt c⟩ : Dev nD) = dst 1 c := by revert c; decide +kernel
theorem dev5_eq (c : Dev nD) : (⟨k0_dev5 c, k0_dev5_lt c⟩ : Dev nD) = dst 0 c := by revert c; decide +kernel
theorem dev6_eq (c : Dev nD) : (⟨k0_dev6 c, k0_dev6_lt c⟩ : Dev nD) = dst 1 c := by revert c; decide +kernel
theorem dev7_eq (c : Dev nD) : (⟨k0_dev7 c, k0_dev7_lt c⟩ : Dev nD) = dst 0 c := by revert c; decide +kernel
theorem dev8_eq (c : Dev nD) : (⟨k0_dev8 c, k0_dev8_lt c⟩ : Dev nD) = dst 1 c := by revert c; decide +kernel
theorem dev9_eq (c : Dev nD) : (⟨k0_dev9 c, k0_dev9_lt c⟩ : Dev nD) = dst 2 c := by revert c; decide +kernel
theorem dev10_eq (c : Dev nD) : (⟨k0_dev10 c, k0_dev10_lt c⟩ : Dev nD) = dst 3 c := by revert c; decide +kernel
theorem dev11_eq (c : Dev nD) : (⟨k0_dev11 c, k0_dev11_lt c⟩ : Dev nD) = dst 2 c := by revert c; decide +kernel
theorem dev12_eq (c : Dev nD) : (⟨k0_dev12 c, k0_dev12_lt c⟩ : Dev nD) = dst 3 c := by revert c; decide +kernel
theorem dev13_eq (c : Dev nD) : (⟨k0_dev13 c, k0_dev13_lt c⟩ : Dev nD) = dst 2 c := by revert c; decide +kernel
theorem dev14_eq (c : Dev nD) : (⟨k0_dev14 c, k0_dev14_lt c⟩ : Dev nD) = dst 3 c := by revert c; decide +kernel

/-! ## The buffers and their slots -/

abbrev aM : Memref sig .tc .vmem S1536x768 .bf16 := Memref.whole cc0_stg0_0
abbrev bM : Memref sig .tc .vmem S768x1536 .bf16 := Memref.whole cc0_stg1_0
abbrev oM : Memref sig .tc .vmem S1536x1536 .f32 := Memref.whole cc0_stg2_0

/-- The four scratch buffers. -/
def bufM : Fin 4 → Memref sig .tc .vmem S4x192x1536 .bf16
  | 0 => Memref.whole cc0_scratch0 | 1 => Memref.whole cc0_scratch1
  | 2 => Memref.whole cc0_scratch2 | 3 => Memref.whole cc0_scratch3

theorem inbK : ∀ k : Fin 4, ∀ a, (![k.val, 0, 0] : Fin 3 → ℕ) a + S1x192x1536.size a ≤ S4x192x1536.size a := by decide
/-- Slot `k` of a scratch buffer, as a rectangle. -/
def rK (k : Fin 4) : Rect S4x192x1536 := Rect.unit (s := S4x192x1536) ![k.val, 0, 0] S1x192x1536.size (inbK k)

/-- The part of a scratch buffer it is, -/
def slc (M : Memref sig .tc .vmem S4x192x1536 .bf16) (k : Fin 4) : Memref sig .tc .vmem S1x192x1536 .bf16 :=
  M.slice (rK k) (fun _ => rfl)
/-- and the same part as the transfers name it: the rectangle with its unit axis dropped. -/
def sqz (M : Memref sig .tc .vmem S4x192x1536 .bf16) (k : Fin 4) : Memref sig .tc .vmem S192x1536 .bf16 :=
  (slc M k).squeeze S192x1536 squeezes_S1x192x1536_S192x1536

/-- The contents of a slot. -/
abbrev SlotV (F : FTy → Type) : Type := Vec F S1x192x1536 .bf16

/-- Device `c` holds slot `k` of buffer `b` at share `q`, and it reads `v`. -/
def slotPts (b k : Fin 4) (c : Dev nD) (q : PosShare TreeShare) (v : SlotV F) : sProp 𝕄 :=
  owns (c : Thread nD τ) (slc (bufM b) k) q v

instance slotPts_storable (b k : Fin 4) (c : Dev nD) (q) (v : SlotV F) : BI.Storable (upEmb : UEmb _ 𝕄) (slotPts (F := F) b k c q v) := by
  unfold slotPts; exact owns_storable (c : Thread nD τ) (slc (bufM b) k) q v

/-- Slots 1, 2 and 3 of buffer `b` of device `c`, whatever they hold: what the neighbour may fill. -/
def freeSlots (b : Fin 4) (c : Dev nD) : sProp 𝕄 :=
  iprop((∃ v, slotPts (F := F) b 1 c fullShare v) ∗ (∃ v, slotPts (F := F) b 2 c fullShare v) ∗ (∃ v, slotPts (F := F) b 3 c fullShare v))

instance freeSlots_storable (b : Fin 4) (c : Dev nD) : BI.Storable (upEmb : UEmb _ 𝕄) (freeSlots (F := F) b c) := by
  unfold freeSlots; infer_instance

/-- What one transfer credits its cells with. -/
abbrev N : ℕ := (sqz (Memref.whole cc0_scratch0) 0).view.dmaCredit
theorem N_pos : 0 < N := View.dmaCredit_pos _ (by decide)

/-! ## The cells -/

/-- The runtime's barrier semaphore of collective id 0. -/
abbrev barS : Sem sig := (SemArray.scalar (sig.barrier 0 rfl) : Sems sig S_).sem
/-- The send and the receive semaphore of transfer `(b, h)`. -/
def sndS (b : Fin 4) (h : Fin 3) : DmaSem sig := ⟨3 + 6 * b.val + h.val, by have := b.isLt; have := h.isLt; show _ < 27; omega⟩
def rcvS (b : Fin 4) (h : Fin 3) : DmaSem sig := ⟨6 + 6 * b.val + h.val, by have := b.isLt; have := h.isLt; show _ < 27; omega⟩

abbrev barCell (c : Dev nD) : GSem nD τ sig := ((c : Thread nD τ), .reg barS)
abbrev sndCell (b : Fin 4) (h : Fin 3) (c : Dev nD) : GSem nD τ sig := ((c : Thread nD τ), .dma (sndS b h))
abbrev rcvCell (b : Fin 4) (h : Fin 3) (c : Dev nD) : GSem nD τ sig := ((c : Thread nD τ), .dma (rcvS b h))

/-! ## The contents -/

/-- The staged block of the left operand on device `c`, -/
def stgA (c : Dev nD) : (cc0_stg0_0 : Ref sig .tc).ty.Contents (Elt F) :=
  (win0_0.blk (0 : Fin 1)).view.read (Elt F) ((s₀ m ρ).mem ((c : Thread nD τ).loc main_arg0))
/-- and of the right one. -/
def stgB (c : Dev nD) : (cc0_stg1_0 : Ref sig .tc).ty.Contents (Elt F) :=
  (win0_1.blk (0 : Fin 1)).view.read (Elt F) ((s₀ m ρ).mem ((c : Thread nD τ).loc main_arg1))

theorem inbA : ∀ k : Fin 8, ∀ a, (![192 * k.val, 0] : Fin 2 → ℕ) a + S192x768.size a ≤ S1536x768.size a := by decide
theorem inbO : ∀ k : Fin 8, ∀ a, (![192 * k.val, 0] : Fin 2 → ℕ) a + S192x1536.size a ≤ S1536x1536.size a := by decide
/-- Rows `192 k` to `192 k + 191` of the left operand, -/
def rA (k : Fin 8) : Rect S1536x768 := Rect.unit (s := S1536x768) ![192 * k.val, 0] S192x768.size (inbA k)
/-- and of the result. -/
def rO (k : Fin 8) : Rect S1536x1536 := Rect.unit (s := S1536x1536) ![192 * k.val, 0] S192x1536.size (inbO k)

/-- Row block `k` of the left operand on device `c`. -/
def aAt (c : Dev nD) (k : Fin 8) : Vec F S192x768 .bf16 :=
  (aM.access (rA k)).read (Elt F) (stgA m ρ c)

/-- The row block device `c` works on at step `h` of the ring of buffer `b` (0: to the next device, upper half of the rows;
    1: to the previous one, lower half). -/
def ck : Fin 4 → ℕ → Dev nD → Fin 8
  | 0, h, c => ⟨(c.val + 4 - h % 4) % 4, by have := Nat.mod_lt (c.val + 4 - h % 4) (show 0 < 4 by decide); omega⟩
  | _, h, c => ⟨4 + (c.val + h) % 4, by have := Nat.mod_lt (c.val + h) (show 0 < 4 by decide); omega⟩

/-- Device `c`'s product of its row block `k` with its own block of the right operand. -/
def mm (c : Dev nD) (k : Fin 8) : FVec F S192x1536 .f32 := k0_pay6 (k0_pay3 (stgB m ρ c)) (aAt m ρ c k)

/-- The partial sum device `c` sends at step `h` of the ring of buffer `b`. -/
def rs (b : Fin 4) : ℕ → Dev nD → SlotV F
  | 0, c => k0_pay14 (mm m ρ c (ck b 0 c))
  | h + 1, c => k0_pay14 (k0_pay12 (mm m ρ c (ck b (h + 1) c)) (rs b h (frm b c)))
/-- The full sum, not yet rounded, that ends the ring of buffer `b` on device `c`. -/
def fin (b : Fin 4) (c : Dev nD) : FVec F S192x1536 .f32 := k0_pay12 (mm m ρ c (ck b 3 c)) (rs m ρ b 2 (frm b c))
/-- The finished block device `c` passes on at step `h`. -/
def ag (b : Fin 4) : ℕ → Dev nD → SlotV F
  | 0, c => rs m ρ b 3 c
  | h + 1, c => ag b h (frm b c)

/-- What transfer `(b, h)` of device `c` carries. -/
def V : Fin 4 → ℕ → Dev nD → SlotV F
  | 0 => rs m ρ 0 | 1 => rs m ρ 1 | 2 => ag m ρ 0 | 3 => ag m ρ 1

/-! ## The schedule -/

/-- The send cell of `(b, h)` hands back the half share of the source slot, -/
def sndPay (b : Fin 4) (h : Fin 3) (c : Dev nD) : sProp 𝕄 := slotPts b h.castSucc c fullShare.left (V m ρ b h.val c)
/-- the receive cell the slot filled. -/
def rcvPay (b : Fin 4) (h : Fin 3) (c : Dev nD) : sProp 𝕄 := slotPts b h.succ c fullShare (V m ρ b h.val (frm b c))
/-- The next device's signal hands over its slots that this device fills; the previous device's likewise. -/
def barPay (d : Bool) (c : Dev nD) : sProp 𝕄 :=
  if d then iprop(freeSlots (F := F) 0 (nxt c) ∗ freeSlots (F := F) 2 (nxt c))
  else iprop(freeSlots (F := F) 1 (prv c) ∗ freeSlots (F := F) 3 (prv c))

set_option backward.proofsInPublic true in
/-- The payload of the cell of DMA semaphore `n`. -/
def dmaPay (c : Dev nD) (n : ℕ) : sProp 𝕄 :=
  if ((n - 3) / 3) % 2 = 0 then sndPay m ρ ⟨((n - 3) / 6) % 4, Nat.mod_lt _ (by decide)⟩ ⟨(n - 3) % 3, Nat.mod_lt _ (by decide)⟩ c
  else rcvPay m ρ ⟨((n - 3) / 6) % 4, Nat.mod_lt _ (by decide)⟩ ⟨(n - 3) % 3, Nat.mod_lt _ (by decide)⟩ c

omit [FloatOps F] in
theorem idx_snd (b : Fin 4) (h : Fin 3) : ((sndS b h).val - 3) / 3 % 2 = 0 ∧ ((sndS b h).val - 3) / 6 % 4 = b.val ∧ ((sndS b h).val - 3) % 3 = h.val := by
  revert b h; decide
omit [FloatOps F] in
theorem idx_rcv (b : Fin 4) (h : Fin 3) : ((rcvS b h).val - 3) / 3 % 2 = 1 ∧ ((rcvS b h).val - 3) / 6 % 4 = b.val ∧ ((rcvS b h).val - 3) % 3 = h.val := by
  revert b h; decide

theorem dmaPay_snd (b : Fin 4) (h : Fin 3) (c : Dev nD) : dmaPay m ρ c (sndS b h).val = sndPay m ρ b h c := by
  obtain ⟨h1, h2, h3⟩ := idx_snd b h
  unfold dmaPay
  rw [if_pos h1]
  exact congrArg₂ (fun x y => sndPay m ρ x y c) (Fin.ext h2) (Fin.ext h3)
theorem dmaPay_rcv (b : Fin 4) (h : Fin 3) (c : Dev nD) : dmaPay m ρ c (rcvS b h).val = rcvPay m ρ b h c := by
  obtain ⟨h1, h2, h3⟩ := idx_rcv b h
  unfold dmaPay
  rw [if_neg (by rw [h1]; decide)]
  exact congrArg₂ (fun x y => rcvPay m ρ x y c) (Fin.ext h2) (Fin.ext h3)

instance sndPay_storable (b : Fin 4) (h : Fin 3) (c : Dev nD) : BI.Storable (upEmb : UEmb _ 𝕄) (sndPay m ρ b h c) := by unfold sndPay; infer_instance
instance rcvPay_storable (b : Fin 4) (h : Fin 3) (c : Dev nD) : BI.Storable (upEmb : UEmb _ 𝕄) (rcvPay m ρ b h c) := by unfold rcvPay; infer_instance
instance barPay_storable (d : Bool) (c : Dev nD) : BI.Storable (upEmb : UEmb _ 𝕄) (barPay (F := F) d c) := by
  unfold barPay; split <;> infer_instance
instance dmaPay_storable (c : Dev nD) (n : ℕ) : BI.Storable (upEmb : UEmb _ 𝕄) (dmaPay m ρ c n) := by
  unfold dmaPay; split <;> infer_instance

/-- The payload of a cell's duty. -/
def pay (c : Dev nD) (s : SemLoc sig) (d : Bool) : sProp 𝕄 := match s with
  | .reg _ => barPay d c
  | .dma q => dmaPay m ρ c q.val
instance pay_storable (c : Dev nD) (s : SemLoc sig) (d : Bool) : BI.Storable (upEmb : UEmb _ 𝕄) (pay m ρ c s d) := by
  unfold pay; split <;> infer_instance

/-- The duties of a cell's one round: a barrier cell both, a transfer's cell the duty `false`. -/
def dut (s : SemLoc sig) : Finset Bool := match s with
  | .reg _ => Finset.univ
  | .dma _ => {false}
/-- Its units a duty. -/
def amt (s : SemLoc sig) : ℕ := match s with
  | .reg _ => 1
  | .dma _ => N

/-- One round per cell, round 0. -/
def ringRd : Rounds.Schedule (GSem nD τ sig) Bool 𝕄 where
  duties g r := if r = 0 then dut g.2 else ∅
  unitless _ := False
  amount g _ _ := amt g.2
  payload g _ d := pay m ρ g.1.1 g.2 d
  amount_pos g _ _ _ := by
    rcases g with ⟨t, s⟩
    cases s
    · exact Nat.one_pos
    · exact N_pos

instance ringRd_payload_storable (g : GSem nD τ sig) (r : ℕ) (d : Bool) :
    BI.Storable (upEmb : UEmb _ 𝕄) ((ringRd (F := F) m ρ).payload g r d) := pay_storable m ρ g.1.1 g.2 d

section Sched
variable (c : Dev nD)

theorem duties_bar : (ringRd (F := F) m ρ).duties (barCell c) 0 = Finset.univ := rfl
theorem duties_dma (q : DmaSem sig) : (ringRd (F := F) m ρ).duties ((c : Thread nD τ), .dma q) 0 = {false} := rfl
theorem duties_later (g : GSem nD τ sig) : ∀ r, 1 ≤ r → (ringRd (F := F) m ρ).duties g r = ∅ :=
  fun r hr => by dsimp only [ringRd]; exact if_neg (by omega)
theorem amount_bar (d : Bool) : (ringRd (F := F) m ρ).amount (barCell c) 0 d = 1 := rfl
theorem amount_dma (q : DmaSem sig) (d : Bool) : (ringRd (F := F) m ρ).amount ((c : Thread nD τ), .dma q) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (q : DmaSem sig) : (ringRd (F := F) m ρ).expect ((c : Thread nD τ), .dma q) 0 = N := by
  unfold Schedule.expect Schedule.amountOf; rw [duties_dma, Finset.sum_singleton, amount_dma]

theorem payload_bar (d : Bool) : (ringRd (F := F) m ρ).payload (barCell c) 0 d = barPay d c := rfl
theorem payload_snd (b : Fin 4) (h : Fin 3) (d : Bool) : (ringRd (F := F) m ρ).payload (sndCell b h c) 0 d = sndPay m ρ b h c :=
  dmaPay_snd m ρ b h c
theorem payload_rcv (b : Fin 4) (h : Fin 3) (d : Bool) : (ringRd (F := F) m ρ).payload (rcvCell b h c) 0 d = rcvPay m ρ b h c :=
  dmaPay_rcv m ρ b h c

/-- The whole of the barrier cell's round: both neighbours' slots. -/
theorem rest_bar : bigSep ((ringRd (F := F) m ρ).duties (barCell c) 0 \ ∅) (fun d => (ringRd (F := F) m ρ).payload (barCell c) 0 d)
    = iprop((freeSlots (F := F) 1 (prv c) ∗ freeSlots (F := F) 3 (prv c)) ∗ (freeSlots (F := F) 0 (nxt c) ∗ freeSlots (F := F) 2 (nxt c))) := by
  rw [Finset.sdiff_empty, duties_bar, bigSep_univ_eq_bigSepL [false, true] (by decide) (by decide), bigSepL_cons_cons, bigSepL_singleton,
    payload_bar, payload_bar]
  rfl
/-- The whole of a transfer cell's round is its payload. -/
theorem rest_dma (q : DmaSem sig) : bigSep ((ringRd (F := F) m ρ).duties ((c : Thread nD τ), .dma q) 0 \ ∅)
    (fun d => (ringRd (F := F) m ρ).payload ((c : Thread nD τ), .dma q) 0 d) = (ringRd (F := F) m ρ).payload ((c : Thread nD τ), .dma q) 0 false := by
  rw [Finset.sdiff_empty, duties_dma, bigSep_singleton]

end Sched

/-! ## What each core owes; the levels -/

/-- The transfers in program order. -/
def xfers : List (Fin 4 × Fin 3) :=
  [(0, 0), (1, 0), (0, 1), (1, 1), (0, 2), (1, 2), (2, 0), (3, 0), (2, 1), (3, 1), (2, 2), (3, 2)]

/-- What device `c` owes with the transfers `l` still to start. -/
def dues (c : Dev nD) : List (Fin 4 × Fin 3) → CellTallies nD τ sig Unit
  | [] => 0
  | x :: l => dues c l + tallyAt (rcvCell x.1 x.2 (dst x.1 c)) () N

/-- What it owes at launch: the transfers and the two signals (the one to the previous device is paid first). -/
def O₁ (c : Dev nD) : CellTallies nD τ sig Unit := dues c xfers + tallyAt (barCell (nxt c)) () 1
def O₀ (c : Dev nD) : CellTallies nD τ sig Unit := O₁ c + tallyAt (barCell (prv c)) () 1

def L (g : GSem nD τ sig) : Finset Unit := if g.1.2 = .tc then {()} else ∅
/-- Level of a DMA semaphore's cell: the receive cells from 2 up in the order of their rounds, the others 0. -/
def lvD (n : ℕ) : ℕ := if n < 3 then 0 else if ((n - 3) / 3) % 2 = 0 then 0 else 2 + (3 * ((n - 3) / 12) + (n - 3) % 3)
/-- Barrier cells at 1. -/
def lv (g : GSem nD τ sig) (_ : Unit) : ℕ := match g.2 with
  | .reg _ => 1
  | .dma q => lvD q.val

theorem L_of_ne (g : GSem nD τ sig) (h : g.1.2 ≠ .tc) : L g = ∅ := if_neg h
theorem L_tc (c : Dev nD) (sm : SemLoc sig) : L ((c : Thread nD τ), sm) = {()} := if_pos rfl

theorem dues_pos {c : Dev nD} {l : List (Fin 4 × Fin 3)} {g : GSem nD τ sig} {u : Unit} (h : 0 < dues c l g u) :
    ∃ x ∈ l, g = rcvCell x.1 x.2 (dst x.1 c) := by
  induction l with
  | nil => exact absurd h (Nat.lt_irrefl 0)
  | cons x l ih =>
    unfold dues at h
    rw [Pi.add_apply, Finsupp.add_apply, tallyAt_apply] at h
    by_cases hx : g = rcvCell x.1 x.2 (dst x.1 c) ∧ u = ()
    · exact ⟨x, List.mem_cons_self, hx.1⟩
    · rw [if_neg hx, Nat.add_zero] at h
      obtain ⟨y, hy, hg⟩ := ih h
      exact ⟨y, List.mem_cons_of_mem _ hy, hg⟩

theorem add_pos_split (A : CellTallies nD τ sig Unit) (d e : Dev nD) {g : GSem nD τ sig} {u : Unit}
    (h : 0 < (A + tallyAt (barCell d) () 1 + tallyAt (barCell e) () 1) g u) : 0 < A g u ∨ ∃ d, g = barCell d := by
  rw [Pi.add_apply, Finsupp.add_apply, Pi.add_apply, Finsupp.add_apply, tallyAt_apply, tallyAt_apply] at h
  by_cases h1 : g = barCell d ∧ u = ()
  · exact Or.inr ⟨_, h1.1⟩
  by_cases h2 : g = barCell e ∧ u = ()
  · exact Or.inr ⟨_, h2.1⟩
  rw [if_neg h1, if_neg h2] at h
  exact Or.inl h

theorem O₀_pos {c : Dev nD} {g : GSem nD τ sig} {u : Unit} (h : 0 < O₀ c g u) :
    (∃ x ∈ xfers, g = rcvCell x.1 x.2 (dst x.1 c)) ∨ ∃ d, g = barCell d := by
  rcases add_pos_split (dues c xfers) (nxt c) (prv c) h with h | h
  · exact Or.inl (dues_pos h)
  · exact Or.inr h

/-- A wait on a cell of level `k` is allowed while the transfers still owed all have a higher level. -/
theorem mayWait_dues (c : Dev nD) (s : SemLoc sig) (l : List (Fin 4 × Fin 3)) (k : ℕ) (hk : lv ((c : Thread nD τ), s) () = k)
    (hl : ∀ x ∈ l, k < lvD (rcvS x.1 x.2).val) :
    (levAts L lv : sProp 𝕄) ⊢ MayWait (c : Thread nD τ) s () (dues c l) :=
  MayOwe.of_cut (L := L) (lev := lv) k (fun p hp => by rw [Finset.mem_singleton.mp hp, L_tc]; exact Finset.mem_singleton_self _)
    (fun g u hg => by obtain ⟨x, -, rfl⟩ := dues_pos hg; exact Finset.mem_singleton_self _)
    (fun p hp => by rw [Finset.mem_singleton.mp hp]; exact hk.le)
    (fun g u hg => by obtain ⟨x, hx, rfl⟩ := dues_pos hg; exact hl x hx)

/-- The pipeline's own waits come below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | ⟨d, rfl⟩ <;> exact Finset.mem_singleton_self _)
      (fun p hp => by rw [Finset.mem_singleton.mp hp]; show lvD q.val ≤ 0; unfold lvD; rw [if_pos hq])
      (fun g u hg => by
        rcases O₀_pos hg with ⟨x, hx, rfl⟩ | ⟨d, rfl⟩
        · exact (show ∀ x ∈ xfers, 0 < lvD (rcvS x.1 x.2).val by decide) x hx
        · exact Nat.one_pos)
  · rw [MayWait_zero]; iintro -; iempintro

end Cert.KernelIdealProof

end
-- ==== Proof.KernelIdealSteps.lean ====
/-
# 01_k — one rule per memory operation of the body, over the slots and the transfers

Each operation of the body is one of: a load of a slot, a store to a slot, a load of a row block of the left operand, the load
of the right operand, a load or a store of a row block of the result, the start of a transfer, the wait on its send cell, the
wait on its receive cell. Each has its rule here, over the bundles a device holds.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells as one family, and what every device knows of all of them -/

/-- The transfers' cells of one device: buffer, step, and whether it is the receive cell. -/
abbrev Xc : Type := Fin 4 × Fin 3 × Bool

/-- The semaphore of a transfer's cell. -/
def xS (x : Xc) : DmaSem sig := bif x.2.2 then rcvS x.1 x.2.1 else sndS x.1 x.2.1

/-- All the cells: a device's barrier cell (`none`) and its transfers' (`some`). -/
def kcell (cx : Dev nD × Option Xc) : GSem nD τ sig := match cx.2 with
  | none => barCell cx.1
  | some x => ((cx.1 : Thread nD τ), .dma (xS x))

/-- What the launch sets up for everyone: the levels, and each cell's invariant with its round 0 open. -/
def recs (K : Dev nD × Option Xc → ℕ) : sProp 𝕄 :=
  iprop(levAts L lv ∗ bigSep Finset.univ fun cx => iprop(cellInv ER (ringRd m ρ) (K cx) (kcell cx) ∗ reached ER (kcell cx) 0))

instance recs_persistent (K) : BI.Persistent (recs (F := F) m ρ K) := by unfold recs; infer_instance

variable (K : Dev nD × Option Xc → ℕ)

theorem recs_lev : recs m ρ K ⊢ levAts L lv := by unfold recs; iintro ⟨H, -⟩; iexact H
theorem recs_at (cx : Dev nD × Option Xc) :
    recs m ρ K ⊢ iprop(cellInv ER (ringRd m ρ) (K cx) (kcell cx) ∗ reached ER (kcell cx) 0) := by
  unfold recs
  iintro ⟨-, H⟩
  iapply (show (bigSep Finset.univ fun cx => iprop(cellInv ER (ringRd m ρ) (K cx) (kcell cx) ∗ reached ER (kcell cx) 0))
    ⊢ iprop(cellInv ER (ringRd m ρ) (K cx) (kcell cx) ∗ reached ER (kcell cx) 0) from
    bigSep_elim (Φ := fun cx => iprop(cellInv ER (ringRd m ρ) (K cx) (kcell cx) ∗ reached ER (kcell cx) 0)) (Finset.mem_univ cx))
  iexact H
theorem recs_bar (c : Dev nD) : recs m ρ K ⊢ iprop(cellInv ER (ringRd m ρ) (K (c, none)) (barCell c) ∗ reached ER (barCell c) 0) :=
  recs_at m ρ K (c, none)
theorem recs_snd (b : Fin 4) (h : Fin 3) (c : Dev nD) :
    recs m ρ K ⊢ iprop(cellInv ER (ringRd m ρ) (K (c, some (b, h, false))) (sndCell b h c) ∗ reached ER (sndCell b h c) 0) :=
  recs_at m ρ K (c, some (b, h, false))
theorem recs_rcv (b : Fin 4) (h : Fin 3) (c : Dev nD) :
    recs m ρ K ⊢ iprop(cellInv ER (ringRd m ρ) (K (c, some (b, h, true))) (rcvCell b h c) ∗ reached ER (rcvCell b h c) 0) :=
  recs_at m ρ K (c, some (b, h, true))

/-! ## A transfer's resources, as it proceeds -/

/-- Before it starts: its two duties, its own two cells' positions, and the credit due on its receive cell. -/
def tx (b : Fin 4) (h : Fin 3) (c : Dev nD) : sProp 𝕄 :=
  iprop(dutyTok ER (sndCell b h c) 0 false ∗ dutyTok ER (rcvCell b h (dst b c)) 0 false
    ∗ atPos ER (sndCell b h c) 0 ∅ 0 ∗ atPos ER (rcvCell b h c) 0 ∅ 0 ∗ cred (tallyAt (rcvCell b h c) () N))
/-- Started. -/
def inFl (b : Fin 4) (h : Fin 3) (c : Dev nD) : sProp 𝕄 :=
  iprop(cred (tallyAt (sndCell b h c) () N) ∗ atPos ER (sndCell b h c) 0 ∅ 0 ∗ atPos ER (rcvCell b h c) 0 ∅ 0 ∗ cred (tallyAt (rcvCell b h c) () N))
/-- Its send waited for. -/
def sent (b : Fin 4) (h : Fin 3) (c : Dev nD) : sProp 𝕄 :=
  iprop(semVal (sndCell b h c) 0 ∗ atPos ER (rcvCell b h c) 0 ∅ 0 ∗ cred (tallyAt (rcvCell b h c) () N))
/-- Both waited for: its cells' counters back at zero. -/
def over (b : Fin 4) (h : Fin 3) (c : Dev nD) : sProp 𝕄 :=
  iprop(semVal (sndCell b h c) 0 ∗ semVal (rcvCell b h c) 0)
/-- What device `c` owes, its waits so far unnamed. -/
def owesAny (c : Dev nD) (O : CellTallies nD τ sig Unit) : sProp 𝕄 := iprop(∃ W, owes (c : Thread nD τ) O W)

/-! ## The slot's two names -/

theorem sqz_pts (M : Memref sig .tc .vmem S4x192x1536 .bf16) (k : Fin 4) (c : Dev nD) (q : PosShare TreeShare)
    (f : M.view.ty.Contents (Elt F)) :
    ((sqz M k).view.loc (c : Thread nD τ) ↦[(sqz M k).view.set]{q} f : sProp 𝕄)
      = ((slc M k).view.loc (c : Thread nD τ) ↦[(slc M k).view.set]{q} f) := by
  have hset : (sqz M k).view.set = (slc M k).view.set := View.set_reshape _ _
  exact congrArg (fun S => ((slc M k).view.loc (c : Thread nD τ) ↦[S]{q} f : sProp 𝕄)) hset

/-- A transfer from slot to slot lands what the source slot reads. -/
theorem sqz_land (M : Memref sig .tc .vmem S4x192x1536 .bf16) (k k' : Fin 4) (fs fd : M.view.ty.Contents (Elt F)) :
    (slc M k').view.read (Elt F) ((sqz M k').view.write (Elt F) fd ((sqz M k).view.read (Elt F) fs) Finset.univ)
      = (slc M k).view.read (Elt F) fs := by
  have h := View.write_reshape_univ (Val := Elt F) (v := (slc M k').view)
    (Shape.Squeezes.numel_eq squeezes_S1x192x1536_S192x1536) fd ((sqz M k).view.read (Elt F) fs)
  refine (congrArg ((slc M k').view.read (Elt F)) h).trans ((View.read_write_univ (v := (slc M k').view) fd _).trans ?_)
  funext x
  show (slc M k).view.read (Elt F) fs (Shape.reshapeEquiv _ ((Shape.reshapeEquiv _).symm x)) = _
  exact congrArg ((slc M k).view.read (Elt F) fs) (Equiv.apply_symm_apply _ x)

/-! ## Transfers -/

omit [FloatOps F] in
theorem credit_sqz (b k : Fin 4) : (sqz (bufM b) k).view.dmaCredit = N := by
  fin_cases b <;> rfl
omit [FloatOps F] in
theorem amount_sqz (b k : Fin 4) (q : DmaSem sig) : (sqz (bufM b) k).view.amount (.dma q) = N := credit_sqz b k

theorem owns_of_sqz (M : Memref sig .tc .vmem S4x192x1536 .bf16) (k : Fin 4) (c : Dev nD) (q : PosShare TreeShare)
    (f : M.view.ty.Contents (Elt F)) (v : SlotV F) (hf : (slc M k).view.read (Elt F) f = v) :
    ((sqz M k).view.loc (c : Thread nD τ) ↦[(sqz M k).view.set]{q} f : sProp 𝕄) ⊢ owns (c : Thread nD τ) (slc M k) q v := by
  subst hf
  exact (Entails.of_eq (sqz_pts M k c q f)).trans (owns_intro (c : Thread nD τ) (slc M k) q f)

/-- The half share of the source slot makes the send cell's payload, -/
theorem pay_of_src (b : Fin 4) (h : Fin 3) (c : Dev nD) (fs : (bufM b).view.ty.Contents (Elt F))
    (hfs : (slc (bufM b) h.castSucc).view.read (Elt F) fs = V m ρ b h.val c) :
    ((sqz (bufM b) h.castSucc).view.loc (c : Thread nD τ) ↦[(sqz (bufM b) h.castSucc).view.set]{fullShare.left} fs : sProp 𝕄)
      ⊢ (ringRd m ρ).payload (sndCell b h c) 0 false :=
  (owns_of_sqz (bufM b) h.castSucc c fullShare.left fs _ hfs).trans (Entails.of_eq (payload_snd m ρ c b h false).symm)

/-- and what lands the receive cell's. -/
theorem pay_of_dst (b : Fin 4) (h : Fin 3) (c : Dev nD) (fs fd : (bufM b).view.ty.Contents (Elt F))
    (hfs : (slc (bufM b) h.castSucc).view.read (Elt F) fs = V m ρ b h.val c) :
    ((sqz (bufM b) h.succ).view.loc (dst b c : Thread nD τ) ↦[(sqz (bufM b) h.succ).view.set]{fullShare}
        ((sqz (bufM b) h.succ).view.write (Elt F) fd ((sqz (bufM b) h.castSucc).view.read (Elt F) fs) Finset.univ) : sProp 𝕄)
      ⊢ (ringRd m ρ).payload (rcvCell b h (dst b c)) 0 false := by
  rw [payload_rcv]
  unfold rcvPay
  rw [frm_dst]
  exact owns_of_sqz (bufM b) h.succ (dst b c) fullShare _ _ ((sqz_land (bufM b) h.castSucc h.succ fs fd).trans hfs)

/-- Starting transfer `(b, h)`: half the source slot's share goes with it, the due is paid. -/
theorem wp_send_x (b : Fin 4) (h : Fin 3) (k₀ k₁ : Fin 4) (t : ℕ) (hk₀ : k₀ = h.castSucc) (hk₁ : k₁ = h.succ) (ht : t = h.val) (c n : Dev nD) (hn : n = dst b c) (l : List (Fin 4 × Fin 3))
    {src : Memref sig .tc .vmem S192x1536 .bf16} (hs : src = sqz (bufM b) k₀)
    {dm : Memref sig (Dev.tc n : Thread nD τ).2.kind .vmem S192x1536 .bf16} (hd : dm = sqz (bufM b) k₁)
    {q₁ q₂ : DmaSem sig} (h₁ : q₁ = sndS b h) (h₂ : q₂ = rcvS b h)
    {hsc : dm.view.ref.isScScratch = false} {hsrc : src.view.WordExact} {hdst : dm.view.WordExact}
    {hsem : DmaTarget.Typed .vmem (.dma q₂) (.remote (Dev.tc n : Thread nD τ) dm (.dma q₁) hsc)}
    {α : Type} {Q : α → sProp 𝕄} {k : PUnit → Prog (TpuEff nD τ sig (Elt F) Λ₀ .tc) α} :
    iprop(recs m ρ K ∗ tx b h c ∗ slotPts b k₀ c fullShare (V m ρ b t c) ∗ (∃ w, slotPts (F := F) b k₁ (dst b c) fullShare w)
        ∗ owesAny c (dues c ((b, h) :: l)))
      ⊢ iprop(((inFl b h c ∗ slotPts b k₀ c fullShare.right (V m ρ b t c) ∗ owesAny c (dues c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dm (.dma q₁) hsc) (.dma q₂) hsrc hdst hsem) k) Q) := by
  subst hk₀ hk₁ ht
  subst hn hs hd h₁ h₂
  unfold tx owesAny slotPts
  iintro ⟨#HR, ⟨HtS, HtR, HpS, HpR, HcR⟩, Hsrc, ⟨%w, Hdst⟩, ⟨%W, HO⟩⟩ Hk
  ihave HIs := (recs_snd m ρ K b h c) $$ HR
  ihave HIr := (recs_rcv m ρ K b h (dst b c)) $$ HR
  icases HIs with ⟨#HIs, #Hrs⟩
  icases HIr with ⟨#HIr, #Hrr⟩
  ihave Hsrc2 := (owns_halves (c : Thread nD τ) (slc (bufM b) h.castSucc) fullShare (V m ρ b h.val c)).1 $$ Hsrc
  icases Hsrc2 with ⟨HsL, HsR⟩
  ihave HsL' := (show owns (c : Thread nD τ) (slc (bufM b) h.castSucc) fullShare.left (V m ρ b h.val c)
      ⊢ iprop(∃ f, ⌜(slc (bufM b) h.castSucc).view.read (Elt F) f = V m ρ b h.val c⌝
          ∗ ((slc (bufM b) h.castSucc).view.loc (c : Thread nD τ) ↦[(slc (bufM b) h.castSucc).view.set]{fullShare.left} f)) from .rfl) $$ HsL
  icases HsL' with ⟨%fs, %hfs, HsL⟩
  ihave Hdst' := (show owns (dst b c : Thread nD τ) (slc (bufM b) h.succ) fullShare w
      ⊢ iprop(∃ f, ⌜(slc (bufM b) h.succ).view.read (Elt F) f = w⌝
          ∗ ((slc (bufM b) h.succ).view.loc (dst b c : Thread nD τ) ↦[(slc (bufM b) h.succ).view.set]{fullShare} f)) from .rfl) $$ Hdst
  icases Hdst' with ⟨%fd, %hfd, Hdst⟩
  ihave HsL := (Entails.of_eq (sqz_pts (bufM b) h.castSucc c fullShare.left fs).symm) $$ HsL
  ihave Hdst := (Entails.of_eq (sqz_pts (bufM b) h.succ (dst b c) fullShare fd).symm) $$ Hdst
  iapply (Rounds.wp_send_pointsTo 𝒱₀ ER (ringRd m ρ) (c : Thread nD τ) none (c' := (dst b c : Thread nD τ))
    (src := sqz (bufM b) h.castSucc) (dst := sqz (bufM b) h.succ) (sS := .dma (sndS b h)) (sem := .dma (rcvS b h)) (q := fullShare.left)
    (κ₁ := K (c, some (b, h, false))) (κ₂ := K (dst b c, some (b, h, true)))
    (r₁ := 0) (r₂ := 0) (d₁ := false) (d₂ := false) (fs := fs) (fd := fd)
    (by rw [duties_dma]; exact Finset.mem_singleton_self _) (by rw [duties_dma]; exact Finset.mem_singleton_self _)
    () () N ((amount_sqz b h.succ _)) (amount_dma m ρ c _ false) (amount_dma m ρ (dst b c) _ false) (dues c l) (show dues c ((b, h) :: l) = dues c l + tallyAt (rcvCell b h (dst b c)) () N from rfl) (W := W)
    (pay_of_src m ρ b h c fs hfs) (pay_of_dst m ρ b h c fs fd hfs)) $$ [HsL Hdst HO HtS HtR]
  · isplitr; · iexact HIs
    isplitr; · iexact HIr
    isplitl [HsL]; · iexact HsL
    isplitl [Hdst]; · iexact Hdst
    isplitl [HO]; · iexact HO
    isplitl [HtS]; · iexact HtS
    isplitr; · iexact Hrs
    isplitl [HtR]; · iexact HtR
    iexact Hrr
  iintro ⟨HcS, HO⟩
  iapply Hk
  unfold inFl
  isplitr [HsR HO]
  · isplitl [HcS]; · iexact HcS
    isplitl [HpS]; · iexact HpS
    isplitl [HpR]; · iexact HpR
    iexact HcR
  isplitl [HsR]; · iexact HsR
  iexists W; iexact HO

/-- A wait on one of a device's own transfer cells: it returns the payload, and the cell closes with its counter at zero. -/
theorem wp_wait_dma (c : Dev nD) (q : DmaSem sig) (κ : ℕ) (O : CellTallies nD τ sig Unit)
    {src dm : Memref sig .tc .vmem S192x1536 .bf16} {hsrc : src.view.WordExact} {hdst : dm.view.WordExact} (hN : dm.view.dmaCredit = N)
    {α : Type} {Q : α → sProp 𝕄} {k : PUnit → Prog (TpuEff nD τ sig (Elt F) Λ₀ .tc) α} :
    iprop(cellInv ER (ringRd m ρ) κ ((c : Thread nD τ), .dma q) ∗ cred (tallyAt ((c : Thread nD τ), SemLoc.dma q) () N) ∗ owesAny c O
        ∗ MayWait (c : Thread nD τ) (.dma q) () O ∗ atPos ER ((c : Thread nD τ), .dma q) 0 ∅ 0)
      ⊢ iprop(((owesAny c O ∗ semVal ((c : Thread nD τ), SemLoc.dma q) 0
            ∗ (ringRd (F := F) m ρ).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dm hsrc hdst) k) Q) := by
  unfold owesAny
  iintro ⟨#HI, Hc, ⟨%W, HO⟩, HM, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma])) $$ [Hc HO HM Hat]
  · isplitr; · iexact HI
    isplitl [Hc]; · iexact Hc
    isplitl [HO]; · iexact HO
    isplitl [HM]; · iexact HM
    iexact Hat
  iintro ⟨HO, Hat, -, Hpay⟩
  imod (Rounds.cell_close ER (ringRd m ρ) (Set.mem_univ κ) (fun h => h) (R := 0 + 1) (duties_later m ρ ((c : Thread nD τ), .dma q))) $$ [Hat] with Hz
  · isplitr; · iexact HI
    iexact Hat
  iapply Hk
  isplitl [HO]; · iexists _; iexact HO
  isplitl [Hz]; · iexact Hz
  iapply (Entails.of_eq (rest_dma m ρ c q)); iexact Hpay

omit [FloatOps F] in
theorem lvD_snd : ∀ (b : Fin 4) (h : Fin 3), lvD (sndS b h).val = 0 := by decide

/-- The wait on a transfer's send cell: the source slot is whole again. -/
theorem wp_wait_snd (b : Fin 4) (h : Fin 3) (k₀ k₁ : Fin 4) (t : ℕ) (hk₀ : k₀ = h.castSucc) (hk₁ : k₁ = h.succ) (ht : t = h.val) (c : Dev nD) (l : List (Fin 4 × Fin 3)) (hl : ∀ x ∈ l, 0 < lvD (rcvS x.1 x.2).val)
    {q : DmaSem sig} (hq : q = sndS b h)
    {src dm : Memref sig .tc .vmem S192x1536 .bf16} {hsrc : src.view.WordExact} {hdst : dm.view.WordExact} (hN : dm.view.dmaCredit = N)
    {α : Type} {Q : α → sProp 𝕄} {k : PUnit → Prog (TpuEff nD τ sig (Elt F) Λ₀ .tc) α} :
    iprop(recs m ρ K ∗ inFl b h c ∗ slotPts b k₀ c fullShare.right (V m ρ b t c) ∗ owesAny c (dues c l))
      ⊢ iprop(((sent b h c ∗ slotPts b k₀ c fullShare (V m ρ b t c) ∗ owesAny c (dues c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dm hsrc hdst) k) Q) := by
  subst hk₀ hk₁ ht
  subst hq
  unfold inFl
  iintro ⟨#HR, ⟨HcS, HpS, HpR, HcR⟩, HsR, HO⟩ Hk
  ihave HIs := (recs_snd m ρ K b h c) $$ HR
  icases HIs with ⟨#HIs, -⟩
  ihave #Hlev := (recs_lev m ρ K) $$ HR
  iapply (wp_wait_dma m ρ c (sndS b h) (K (c, some (b, h, false))) (dues c l) hN) $$ [HcS HpS HO]
  · isplitr; · iexact HIs
    isplitl [HcS]; · iexact HcS
    isplitl [HO]; · iexact HO
    isplitr
    · iapply (mayWait_dues c (.dma (sndS b h)) l 0 (lvD_snd b h) hl); iexact Hlev
    iexact HpS
  rw [payload_snd]
  iintro ⟨HO, Hz, Hpay⟩
  iapply Hk
  unfold sent sndPay
  isplitl [Hz HpR HcR]
  · isplitl [Hz]; · iexact Hz
    isplitl [HpR] <;> iassumption
  isplitr [HO]
  · unfold slotPts
    iapply (owns_halves (c : Thread nD τ) (slc (bufM b) h.castSucc) fullShare (V m ρ b h.val c)).2
    isplitl [Hpay] <;> iassumption
  iexact HO

/-- The wait on a transfer's receive cell: the slot the neighbour filled. -/
theorem wp_wait_rcv (b : Fin 4) (h : Fin 3) (k₀ k₁ : Fin 4) (t : ℕ) (hk₀ : k₀ = h.castSucc) (hk₁ : k₁ = h.succ) (ht : t = h.val) (c : Dev nD) (l : List (Fin 4 × Fin 3))
    (hl : ∀ x ∈ l, lvD (rcvS b h).val < lvD (rcvS x.1 x.2).val)
    {q : DmaSem sig} (hq : q = rcvS b h)
    {src dm : Memref sig .tc .vmem S192x1536 .bf16} {hsrc : src.view.WordExact} {hdst : dm.view.WordExact} (hN : dm.view.dmaCredit = N)
    {α : Type} {Q : α → sProp 𝕄} {k : PUnit → Prog (TpuEff nD τ sig (Elt F) Λ₀ .tc) α} :
    iprop(recs m ρ K ∗ sent b h c ∗ owesAny c (dues c l))
      ⊢ iprop(((over b h c ∗ slotPts b k₁ c fullShare (V m ρ b t (frm b c)) ∗ owesAny c (dues c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dm hsrc hdst) k) Q) := by
  subst hk₀ hk₁ ht
  subst hq
  unfold sent
  iintro ⟨#HR, ⟨HzS, HpR, HcR⟩, HO⟩ Hk
  ihave HIs := (recs_rcv m ρ K b h c) $$ HR
  icases HIs with ⟨#HIs, -⟩
  ihave #Hlev := (recs_lev m ρ K) $$ HR
  iapply (wp_wait_dma m ρ c (rcvS b h) (K (c, some (b, h, true))) (dues c l) hN) $$ [HcR HpR HO]
  · isplitr; · iexact HIs
    isplitl [HcR]; · iexact HcR
    isplitl [HO]; · iexact HO
    isplitr
    · iapply (mayWait_dues c (.dma (rcvS b h)) l _ rfl hl); iexact Hlev
    iexact HpR
  rw [payload_rcv]
  iintro ⟨HO, Hz, Hpay⟩
  iapply Hk
  unfold over rcvPay
  isplitl [Hz HzS]
  · isplitl [HzS] <;> iassumption
  isplitl [Hpay] <;> iassumption

/-! ## Slots -/

/-- A load of a slot, at any share. -/
theorem wp_load_slot (b k : Fin 4) (c : Dev nD) {q : PosShare TreeShare} {v : SlotV F}
    {M : Memref sig .tc .vmem S4x192x1536 .bf16} (hM : M = bufM b) {off : Fin 3 → ℕ} (hoff : off = ![k.val, 0, 0])
    {inb : ∀ a, off a + S1x192x1536.size a ≤ S4x192x1536.size a}
    {hl : M.view.LoadsAt (Rect.unit (s := S4x192x1536) off S1x192x1536.size inb).toLoadRect}
    {α : Type} {Q : α → sProp 𝕄} {kk : Vec F S1x192x1536 .bf16 → Prog (TpuEff nD τ sig (Elt F) Λ₀ .tc) α} :
    slotPts b k c q v
      ⊢ iprop((slotPts b k c q v -∗ wp frame (wpE (defs₀ (F := F)) 𝒱₀ (c : Thread nD τ) none) Set.univ (kk v) Q)
          -∗ wp frame (wpE (defs₀ (F := F)) 𝒱₀ (c : Thread nD τ) none) Set.univ
            (.op (.load M (Rect.unit (s := S4x192x1536) off S1x192x1536.size inb).toLoadRect hl) kk) Q) := by
  subst hM hoff
  unfold slotPts owns
  change iprop(∃ f, ⌜((bufM b).access (rK k)).read (Elt F) f = v⌝ ∗ (((bufM b).access (rK k)).loc (c : Thread nD τ) ↦[((bufM b).access (rK k)).set]{q} f))
    ⊢ iprop((iprop(∃ f, ⌜((bufM b).access (rK k)).read (Elt F) f = v⌝ ∗ (((bufM b).access (rK k)).loc (c : Thread nD τ) ↦[((bufM b).access (rK k)).set]{q} f)) -∗ _) -∗ _)
  iintro ⟨%f, %hf, H⟩ Hk
  iapply (wp_load_rect 𝒱₀ (c : Thread nD τ) none Set.univ (m := bufM b) (r := rK k) (S := ((bufM b).access (rK k)).set)
    (f := f) (q := q) (Finset.Subset.refl _)) $$ H
  iintro H
  rw [show ((bufM b).access (rK k)).read (Elt F) f = v from hf]
  iapply Hk
  iexists f; isplitr
  · ipureintro; exact hf
  · iexact H

/-- A store to a whole slot. -/
theorem wp_store_slot (b k : Fin 4) (c : Dev nD) {v w : SlotV F}
    {M : Memref sig .tc .vmem S4x192x1536 .bf16} (hM : M = bufM b) {off : Fin 3 → ℕ} (hoff : off = ![k.val, 0, 0])
    {inb : ∀ a, off a + S1x192x1536.size a ≤ S4x192x1536.size a}
    {hx : (M.access (Rect.unit (s := S4x192x1536) off S1x192x1536.size inb)).Stores Finset.univ}
    {hm : (Finset.univ : Finset (Rect.unit (s := S4x192x1536) off S1x192x1536.size inb).shape.Idx) = Finset.univ
      ∨ ∀ a, (Rect.unit (s := S4x192x1536) off S1x192x1536.size inb).stride a = 1}
    {α : Type} {Q : α → sProp 𝕄} {kk : PUnit → Prog (TpuEff nD τ sig (Elt F) Λ₀ .tc) α} :
    slotPts b k c fullShare v
      ⊢ iprop((slotPts b k c fullShare w -∗ wp frame (wpE (defs₀ (F := F)) 𝒱₀ (c : Thread nD τ) none) Set.univ (kk ⟨⟩) Q)
          -∗ wp frame (wpE (defs₀ (F := F)) 𝒱₀ (c : Thread nD τ) none) Set.univ
            (.op (.store M (Rect.unit (s := S4x192x1536) off S1x192x1536.size inb) w Finset.univ hx hm) kk) Q) := by
  subst hM hoff
  unfold slotPts owns
  change iprop(∃ f, ⌜((bufM b).access (rK k)).read (Elt F) f = v⌝ ∗ (((bufM b).access (rK k)).loc (c : Thread nD τ) ↦[((bufM b).access (rK k)).set]{fullShare} f))
    ⊢ iprop((iprop(∃ f, ⌜((bufM b).access (rK k)).read (Elt F) f = w⌝ ∗ (((bufM b).access (rK k)).loc (c : Thread nD τ) ↦[((bufM b).access (rK k)).set]{fullShare} f)) -∗ _) -∗ _)
  iintro ⟨%f, %hf, H⟩ Hk
  iapply (wp_store 𝒱₀ (c : Thread nD τ) none Set.univ (m := bufM b) (r := rK k) (S := ((bufM b).access (rK k)).set)
    (f := f) (Mk := Finset.univ) (w := w) (by rw [View.setOn_univ])) $$ H
  iintro H
  iapply Hk
  iexists _; isplitr
  rotate_left
  · iexact H
  · ipureintro; exact View.read_write_univ (v := ((bufM b).access (rK k))) f w

/-! ## The operands and the result -/

/-- The left operand's stage, the right one's, the result's. -/
def aPts (c : Dev nD) : sProp 𝕄 := ((c : Thread nD τ).loc cc0_stg0_0) ↦{fullShare} stgA m ρ c
def bPts (c : Dev nD) : sProp 𝕄 := ((c : Thread nD τ).loc cc0_stg1_0) ↦{fullShare} stgB m ρ c
def oPts (c : Dev nD) (f : (cc0_stg2_0 : Ref sig .tc).ty.Contents (Elt F)) : sProp 𝕄 := ((c : Thread nD τ).loc cc0_stg2_0) ↦{fullShare} f

/-- A load of row block `k` of the left operand. -/
theorem wp_load_A (k : Fin 8) (c : Dev nD) {off : Fin 2 → ℕ} (hoff : off = ![192 * k.val, 0])
    {inb : ∀ a, off a + S192x768.size a ≤ S1536x768.size a}
    {hl : (aM : Memref sig .tc .vmem S1536x768 .bf16).view.LoadsAt (Rect.unit (s := S1536x768) off S192x768.size inb).toLoadRect}
    {α : Type} {Q : α → sProp 𝕄} {kk : Vec F S192x768 .bf16 → Prog (TpuEff nD τ sig (Elt F) Λ₀ .tc) α} :
    aPts m ρ c
      ⊢ iprop((aPts m ρ c -∗ wp frame (wpE (defs₀ (F := F)) 𝒱₀ (c : Thread nD τ) none) Set.univ (kk (aAt m ρ c k)) Q)
          -∗ wp frame (wpE (defs₀ (F := F)) 𝒱₀ (c : Thread nD τ) none) Set.univ
            (.op (.load aM (Rect.unit (s := S1536x768) off S192x768.size inb).toLoadRect hl) kk) Q) := by
  subst hoff
  unfold aPts aAt
  exact wp_load_rect 𝒱₀ (c : Thread nD τ) none Set.univ (m := aM) (r := rA k) (Finset.subset_univ _)

/-- The load of the whole right operand. -/
theorem wp_load_B (c : Dev nD) {inb : ∀ a, (![0, 0] : Fin 2 → ℕ) a + S768x1536.size a ≤ S768x1536.size a}
    {hl : (bM : Memref sig .tc .vmem S768x1536 .bf16).view.LoadsAt (Rect.unit (s := S768x1536) ![0, 0] S768x1536.size inb).toLoadRect}
    {α : Type} {Q : α → sProp 𝕄} {kk : Vec F S768x1536 .bf16 → Prog (TpuEff nD τ sig (Elt F) Λ₀ .tc) α} :
    bPts m ρ c
      ⊢ iprop((bPts m ρ c -∗ wp frame (wpE (defs₀ (F := F)) 𝒱₀ (c : Thread nD τ) none) Set.univ (kk (stgB m ρ c)) Q)
          -∗ wp frame (wpE (defs₀ (F := F)) 𝒱₀ (c : Thread nD τ) none) Set.univ
            (.op (.load bM (Rect.unit (s := S768x1536) ![0, 0] S768x1536.size inb).toLoadRect hl) kk) Q) := by
  unfold bPts
  have h := wp_load_rect (Val := Elt F) (defs := defs₀ (F := F)) (Γ := PendingWaitsCtx.empty) (Q := Q) (k := kk) (hl := hl) 𝒱₀ (c : Thread nD τ) none Set.univ (m := bM) (f := stgB m ρ c) (q := fullShare)
    (r := Rect.unit (s := S768x1536) ![0, 0] S768x1536.size inb) (Finset.subset_univ _)
  rw [show ((bM : Memref sig .tc .vmem S768x1536 .bf16).access (Rect.unit (s := S768x1536) ![0, 0] S768x1536.size inb)).read (Elt F) (stgB m ρ c) = stgB m ρ c
    from Memref.read_access_unit_zero (Elt F) cc0_stg1_0 (by funext a; fin_cases a <;> rfl) _ (stgB m ρ c)] at h
  exact h

/-- A load of a row block of the result: whatever it reads is not used. -/
theorem wp_load_O (c : Dev nD) {f : (cc0_stg2_0 : Ref sig .tc).ty.Contents (Elt F)} {off : Fin 2 → ℕ}
    {inb : ∀ a, off a + S192x1536.size a ≤ S1536x1536.size a}
    {hl : (oM : Memref sig .tc .vmem S1536x1536 .f32).view.LoadsAt (Rect.unit (s := S1536x1536) off S192x1536.size inb).toLoadRect}
    {α : Type} {Q : α → sProp 𝕄} {p : Prog (TpuEff nD τ sig (Elt F) Λ₀ .tc) α} :
    oPts c f
      ⊢ iprop((oPts c f -∗ wp frame (wpE (defs₀ (F := F)) 𝒱₀ (c : Thread nD τ) none) Set.univ p Q)
          -∗ wp frame (wpE (defs₀ (F := F)) 𝒱₀ (c : Thread nD τ) none) Set.univ
            (.op (.load oM (Rect.unit (s := S1536x1536) off S192x1536.size inb).toLoadRect hl) (fun _ => p)) Q) := by
  unfold oPts
  exact wp_load_rect (k := fun _ => p) 𝒱₀ (c : Thread nD τ) none Set.univ (m := oM) (r := Rect.unit (s := S1536x1536) off S192x1536.size inb) (Finset.subset_univ _)

/-- The result with row block `k` replaced by `w`. -/
def outW (f : (cc0_stg2_0 : Ref sig .tc).ty.Contents (Elt F)) (k : Fin 8) (w : FVec F S192x1536 .f32) :
    (cc0_stg2_0 : Ref sig .tc).ty.Contents (Elt F) :=
  ((oM : Memref sig .tc .vmem S1536x1536 .f32).access (rO k)).write (Elt F) f w Finset.univ

/-- A store of a row block of the result. -/
theorem wp_store_O (k : Fin 8) (c : Dev nD) {f : (cc0_stg2_0 : Ref sig .tc).ty.Contents (Elt F)} {w : FVec F S192x1536 .f32}
    {off : Fin 2 → ℕ} (hoff : off = ![192 * k.val, 0])
    {inb : ∀ a, off a + S192x1536.size a ≤ S1536x1536.size a}
    {hx : ((oM : Memref sig .tc .vmem S1536x1536 .f32).access (Rect.unit (s := S1536x1536) off S192x1536.size inb)).Stores Finset.univ}
    {hm : (Finset.univ : Finset (Rect.unit (s := S1536x1536) off S192x1536.size inb).shape.Idx) = Finset.univ
      ∨ ∀ a, (Rect.unit (s := S1536x1536) off S192x1536.size inb).stride a = 1}
    {α : Type} {Q : α → sProp 𝕄} {kk : PUnit → Prog (TpuEff nD τ sig (Elt F) Λ₀ .tc) α} :
    oPts c f
      ⊢ iprop((oPts c (outW f k w) -∗ wp frame (wpE (defs₀ (F := F)) 𝒱₀ (c : Thread nD τ) none) Set.univ (kk ⟨⟩) Q)
          -∗ wp frame (wpE (defs₀ (F := F)) 𝒱₀ (c : Thread nD τ) none) Set.univ
            (.op (.store oM (Rect.unit (s := S1536x1536) off S192x1536.size inb) w Finset.univ hx hm) kk) Q) := by
  subst hoff
  unfold oPts outW
  iintro H Hk
  iapply (wp_store 𝒱₀ (c : Thread nD τ) none Set.univ (m := oM) (r := rO k) (Mk := Finset.univ) (w := w) (f := f) (Finset.subset_univ _)) $$ H
  iintro H
  iapply Hk
  iexact H

/-! ## The row offsets the body computes -/

theorem off1_eq (c : Dev nD) : k0_off1 c = ![192 * (ck 0 0 c).val, 0] := by revert c; decide +kernel
theorem off2_eq (c : Dev nD) : k0_off2 c = ![192 * (ck 1 0 c).val, 0] := by revert c; decide +kernel
theorem off3_0 (c : Dev nD) : k0_off3 c 0#32 = ![192 * (ck 0 1 c).val, 0] := by revert c; decide +kernel
theorem off3_1 (c : Dev nD) : k0_off3 c 1#32 = ![192 * (ck 0 2 c).val, 0] := by revert c; decide +kernel
theorem off3_2 (c : Dev nD) : k0_off3 c 2#32 = ![192 * (ck 0 3 c).val, 0] := by revert c; decide +kernel
theorem off4_0 (c : Dev nD) : k0_off4 c 0#32 = ![192 * (ck 1 1 c).val, 0] := by revert c; decide +kernel
theorem off4_1 (c : Dev nD) : k0_off4 c 1#32 = ![192 * (ck 1 2 c).val, 0] := by revert c; decide +kernel
theorem off4_2 (c : Dev nD) : k0_off4 c 2#32 = ![192 * (ck 1 3 c).val, 0] := by revert c; decide +kernel
theorem off5_eq (c : Dev nD) : k0_off5 c = ![192 * (ck 0 3 c).val, 0] := by revert c; decide +kernel
theorem off6_eq (c : Dev nD) : k0_off6 c = ![192 * (ck 1 3 c).val, 0] := by revert c; decide +kernel
theorem off7_0 (c : Dev nD) : k0_off7 c 0#32 = ![192 * (ck 0 0 c).val, 0] := by revert c; decide +kernel
theorem off7_1 (c : Dev nD) : k0_off7 c 1#32 = ![192 * (ck 0 1 c).val, 0] := by revert c; decide +kernel
theorem off7_2 (c : Dev nD) : k0_off7 c 2#32 = ![192 * (ck 0 2 c).val, 0] := by revert c; decide +kernel
theorem off8_0 (c : Dev nD) : k0_off8 c 0#32 = ![192 * (ck 1 0 c).val, 0] := by revert c; decide +kernel
theorem off8_1 (c : Dev nD) : k0_off8 c 1#32 = ![192 * (ck 1 1 c).val, 0] := by revert c; decide +kernel
theorem off8_2 (c : Dev nD) : k0_off8 c 2#32 = ![192 * (ck 1 2 c).val, 0] := by revert c; decide +kernel

end Cert.KernelIdealProof

end
-- ==== Proof.KernelIdealNames.lean ====
/-
# 01_k — the names the body computes for slots and semaphores
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- The sum of step `h + 1` of the ring of buffer `b`, not yet rounded. -/
def acc (b : Fin 4) (h : ℕ) (c : Dev nD) : FVec F S192x1536 .f32 := k0_pay12 (mm m ρ c (ck b (h + 1) c)) (V m ρ b h (frm b c))

theorem sq_0_0 (inb) (h) : ((Memref.whole cc0_scratch0).slice (Rect.unit (s := S4x192x1536) ![0, 0, 0] S1x192x1536.size inb) h).squeeze S192x1536 squeezes_S1x192x1536_S192x1536 = sqz (bufM 0) 0 := rfl
theorem sq_0_1 (inb) (h) : ((Memref.whole cc0_scratch0).slice (Rect.unit (s := S4x192x1536) ![1, 0, 0] S1x192x1536.size inb) h).squeeze S192x1536 squeezes_S1x192x1536_S192x1536 = sqz (bufM 0) 1 := rfl
theorem sq_0_2 (inb) (h) : ((Memref.whole cc0_scratch0).slice (Rect.unit (s := S4x192x1536) ![2, 0, 0] S1x192x1536.size inb) h).squeeze S192x1536 squeezes_S1x192x1536_S192x1536 = sqz (bufM 0) 2 := rfl
theorem sq_0_3 (inb) (h) : ((Memref.whole cc0_scratch0).slice (Rect.unit (s := S4x192x1536) ![3, 0, 0] S1x192x1536.size inb) h).squeeze S192x1536 squeezes_S1x192x1536_S192x1536 = sqz (bufM 0) 3 := rfl
theorem sq_1_0 (inb) (h) : ((Memref.whole cc0_scratch1).slice (Rect.unit (s := S4x192x1536) ![0, 0, 0] S1x192x1536.size inb) h).squeeze S192x1536 squeezes_S1x192x1536_S192x1536 = sqz (bufM 1) 0 := rfl
theorem sq_1_1 (inb) (h) : ((Memref.whole cc0_scratch1).slice (Rect.unit (s := S4x192x1536) ![1, 0, 0] S1x192x1536.size inb) h).squeeze S192x1536 squeezes_S1x192x1536_S192x1536 = sqz (bufM 1) 1 := rfl
theorem sq_1_2 (inb) (h) : ((Memref.whole cc0_scratch1).slice (Rect.unit (s := S4x192x1536) ![2, 0, 0] S1x192x1536.size inb) h).squeeze S192x1536 squeezes_S1x192x1536_S192x1536 = sqz (bufM 1) 2 := rfl
theorem sq_1_3 (inb) (h) : ((Memref.whole cc0_scratch1).slice (Rect.unit (s := S4x192x1536) ![3, 0, 0] S1x192x1536.size inb) h).squeeze S192x1536 squeezes_S1x192x1536_S192x1536 = sqz (bufM 1) 3 := rfl
theorem sq_2_0 (inb) (h) : ((Memref.whole cc0_scratch2).slice (Rect.unit (s := S4x192x1536) ![0, 0, 0] S1x192x1536.size inb) h).squeeze S192x1536 squeezes_S1x192x1536_S192x1536 = sqz (bufM 2) 0 := rfl
theorem sq_2_1 (inb) (h) : ((Memref.whole cc0_scratch2).slice (Rect.unit (s := S4x192x1536) ![1, 0, 0] S1x192x1536.size inb) h).squeeze S192x1536 squeezes_S1x192x1536_S192x1536 = sqz (bufM 2) 1 := rfl
theorem sq_2_2 (inb) (h) : ((Memref.whole cc0_scratch2).slice (Rect.unit (s := S4x192x1536) ![2, 0, 0] S1x192x1536.size inb) h).squeeze S192x1536 squeezes_S1x192x1536_S192x1536 = sqz (bufM 2) 2 := rfl
theorem sq_2_3 (inb) (h) : ((Memref.whole cc0_scratch2).slice (Rect.unit (s := S4x192x1536) ![3, 0, 0] S1x192x1536.size inb) h).squeeze S192x1536 squeezes_S1x192x1536_S192x1536 = sqz (bufM 2) 3 := rfl
theorem sq_3_0 (inb) (h) : ((Memref.whole cc0_scratch3).slice (Rect.unit (s := S4x192x1536) ![0, 0, 0] S1x192x1536.size inb) h).squeeze S192x1536 squeezes_S1x192x1536_S192x1536 = sqz (bufM 3) 0 := rfl
theorem sq_3_1 (inb) (h) : ((Memref.whole cc0_scratch3).slice (Rect.unit (s := S4x192x1536) ![1, 0, 0] S1x192x1536.size inb) h).squeeze S192x1536 squeezes_S1x192x1536_S192x1536 = sqz (bufM 3) 1 := rfl
theorem sq_3_2 (inb) (h) : ((Memref.whole cc0_scratch3).slice (Rect.unit (s := S4x192x1536) ![2, 0, 0] S1x192x1536.size inb) h).squeeze S192x1536 squeezes_S1x192x1536_S192x1536 = sqz (bufM 3) 2 := rfl
theorem sq_3_3 (inb) (h) : ((Memref.whole cc0_scratch3).slice (Rect.unit (s := S4x192x1536) ![3, 0, 0] S1x192x1536.size inb) h).squeeze S192x1536 squeezes_S1x192x1536_S192x1536 = sqz (bufM 3) 3 := rfl
theorem snd_0_0 : (((cc0_scratch4 : DmaSems sig S3).slice (Rect.unit (s := S3) ![0] S1.size inb_S3_S1_0)).squeeze S_ squeezes_S1_S_).sem = sndS 0 0 := by decide
theorem rcv_0_0 : (((cc0_scratch5 : DmaSems sig S3).slice (Rect.unit (s := S3) ![0] S1.size inb_S3_S1_0)).squeeze S_ squeezes_S1_S_).sem = rcvS 0 0 := by decide
theorem snd_0_1 : (((cc0_scratch4 : DmaSems sig S3).slice (Rect.unit (s := S3) ![1] S1.size inb_S3_S1_1)).squeeze S_ squeezes_S1_S_).sem = sndS 0 1 := by decide
theorem rcv_0_1 : (((cc0_scratch5 : DmaSems sig S3).slice (Rect.unit (s := S3) ![1] S1.size inb_S3_S1_1)).squeeze S_ squeezes_S1_S_).sem = rcvS 0 1 := by decide
theorem snd_0_2 : (((cc0_scratch4 : DmaSems sig S3).slice (Rect.unit (s := S3) ![2] S1.size inb_S3_S1_2)).squeeze S_ squeezes_S1_S_).sem = sndS 0 2 := by decide
theorem rcv_0_2 : (((cc0_scratch5 : DmaSems sig S3).slice (Rect.unit (s := S3) ![2] S1.size inb_S3_S1_2)).squeeze S_ squeezes_S1_S_).sem = rcvS 0 2 := by decide
theorem snd_1_0 : (((cc0_scratch6 : DmaSems sig S3).slice (Rect.unit (s := S3) ![0] S1.size inb_S3_S1_0)).squeeze S_ squeezes_S1_S_).sem = sndS 1 0 := by decide
theorem rcv_1_0 : (((cc0_scratch7 : DmaSems sig S3).slice (Rect.unit (s := S3) ![0] S1.size inb_S3_S1_0)).squeeze S_ squeezes_S1_S_).sem = rcvS 1 0 := by decide
theorem snd_1_1 : (((cc0_scratch6 : DmaSems sig S3).slice (Rect.unit (s := S3) ![1] S1.size inb_S3_S1_1)).squeeze S_ squeezes_S1_S_).sem = sndS 1 1 := by decide
theorem rcv_1_1 : (((cc0_scratch7 : DmaSems sig S3).slice (Rect.unit (s := S3) ![1] S1.size inb_S3_S1_1)).squeeze S_ squeezes_S1_S_).sem = rcvS 1 1 := by decide
theorem snd_1_2 : (((cc0_scratch6 : DmaSems sig S3).slice (Rect.unit (s := S3) ![2] S1.size inb_S3_S1_2)).squeeze S_ squeezes_S1_S_).sem = sndS 1 2 := by decide
theorem rcv_1_2 : (((cc0_scratch7 : DmaSems sig S3).slice (Rect.unit (s := S3) ![2] S1.size inb_S3_S1_2)).squeeze S_ squeezes_S1_S_).sem = rcvS 1 2 := by decide
theorem snd_2_0 : (((cc0_scratch8 : DmaSems sig S3).slice (Rect.unit (s := S3) ![0] S1.size inb_S3_S1_0)).squeeze S_ squeezes_S1_S_).sem = sndS 2 0 := by decide
theorem rcv_2_0 : (((cc0_scratch9 : DmaSems sig S3).slice (Rect.unit (s := S3) ![0] S1.size inb_S3_S1_0)).squeeze S_ squeezes_S1_S_).sem = rcvS 2 0 := by decide
theorem snd_2_1 : (((cc0_scratch8 : DmaSems sig S3).slice (Rect.unit (s := S3) ![1] S1.size inb_S3_S1_1)).squeeze S_ squeezes_S1_S_).sem = sndS 2 1 := by decide
theorem rcv_2_1 : (((cc0_scratch9 : DmaSems sig S3).slice (Rect.unit (s := S3) ![1] S1.size inb_S3_S1_1)).squeeze S_ squeezes_S1_S_).sem = rcvS 2 1 := by decide
theorem snd_2_2 : (((cc0_scratch8 : DmaSems sig S3).slice (Rect.unit (s := S3) ![2] S1.size inb_S3_S1_2)).squeeze S_ squeezes_S1_S_).sem = sndS 2 2 := by decide
theorem rcv_2_2 : (((cc0_scratch9 : DmaSems sig S3).slice (Rect.unit (s := S3) ![2] S1.size inb_S3_S1_2)).squeeze S_ squeezes_S1_S_).sem = rcvS 2 2 := by decide
theorem snd_3_0 : (((cc0_scratch10 : DmaSems sig S3).slice (Rect.unit (s := S3) ![0] S1.size inb_S3_S1_0)).squeeze S_ squeezes_S1_S_).sem = sndS 3 0 := by decide
theorem rcv_3_0 : (((cc0_scratch11 : DmaSems sig S3).slice (Rect.unit (s := S3) ![0] S1.size inb_S3_S1_0)).squeeze S_ squeezes_S1_S_).sem = rcvS 3 0 := by decide
theorem snd_3_1 : (((cc0_scratch10 : DmaSems sig S3).slice (Rect.unit (s := S3) ![1] S1.size inb_S3_S1_1)).squeeze S_ squeezes_S1_S_).sem = sndS 3 1 := by decide
theorem rcv_3_1 : (((cc0_scratch11 : DmaSems sig S3).slice (Rect.unit (s := S3) ![1] S1.size inb_S3_S1_1)).squeeze S_ squeezes_S1_S_).sem = rcvS 3 1 := by decide
theorem snd_3_2 : (((cc0_scratch10 : DmaSems sig S3).slice (Rect.unit (s := S3) ![2] S1.size inb_S3_S1_2)).squeeze S_ squeezes_S1_S_).sem = sndS 3 2 := by decide
theorem rcv_3_2 : (((cc0_scratch11 : DmaSems sig S3).slice (Rect.unit (s := S3) ![2] S1.size inb_S3_S1_2)).squeeze S_ squeezes_S1_S_).sem = rcvS 3 2 := by decide

end Cert.KernelIdealProof

end
-- ==== Proof.KernelIdealBodyA.lean ====
/-
# 01_k — the body's parts 2 to 6
-/
module

public import proofs.«01_k».proof.Proof.KernelIdealNames

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- Part 2 of the body. -/
theorem wp_part2 (c : Dev nD) {w0 w1 : SlotV F} (v2 : BitVec 32) (v24 : BitVec 32)
    {α : Type} {Q : α → sProp 𝕄} {kk : (FVec F S768x1536 .bf16) → Prog (TpuEff nD τ sig (Elt F) Λ₀ .tc) α} :
    iprop(recs m ρ K ∗ bPts m ρ c ∗ aPts m ρ c ∗ slotPts 0 0 c fullShare (w0) ∗ slotPts 1 0 c fullShare (w1) ∗ tx 0 0 c ∗ (∃ w, slotPts (F := F) 0 1 (dst 0 c) fullShare w) ∗ owesAny c (dues c [(0, 0), (1, 0), (0, 1), (1, 1), (0, 2), (1, 2), (2, 0), (3, 0), (2, 1), (3, 1), (2, 2), (3, 2)]))
      ⊢ iprop(((bPts m ρ c ∗ aPts m ρ c ∗ slotPts 0 0 c fullShare.right (V m ρ 0 0 c) ∗ slotPts 1 0 c fullShare (V m ρ 1 0 c) ∗ inFl 0 0 c ∗ owesAny c (dues c [(1, 0), (0, 1), (1, 1), (0, 2), (1, 2), (2, 0), (3, 0), (2, 1), (3, 1), (2, 2), (3, 2)]))
            -∗ wp frame (wpE (defs₀ (F := F)) 𝒱₀ (c : Thread nD τ) none) Set.univ (kk (k0_pay3 (stgB m ρ c))) Q)
          -∗ wp frame (wpE (defs₀ (F := F)) 𝒱₀ (c : Thread nD τ) none) Set.univ
            ((k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v24).bind kk) Q) := by
  rw [k0_part2_eq_skeleton]; unfold k0_part2_skel
  simp only [Prog.lift, Prog.bind_op, Prog.bind_ret, Prog.pure_eq_ret, Prog.bind_assoc, sq_0_0, sq_0_1, snd_0_0, rcv_0_0]
  iintro ⟨#HR, HB, HA, Hs00, Hs10, Hx00, Hn01, HHO⟩ Hk
  iapply (wp_load_B m ρ c) $$ HB; iintro HB
  iapply (wp_load_A m ρ (ck 0 0 c) c (off1_eq c)) $$ HA; iintro HA
  iapply (wp_load_slot (M := Memref.whole cc0_scratch0) (off := ![0, 0, 0]) 0 0 c rfl rfl) $$ Hs00; iintro Hs00
  iapply (wp_store_slot (M := Memref.whole cc0_scratch0) (off := ![0, 0, 0]) 0 0 c rfl rfl) $$ Hs00; iintro Hs00
  ihave Hs00 := (Entails.of_eq (congrArg (slotPts (F := F) 0 0 c fullShare) (show k0_pay4 (stgB m ρ c) (aAt m ρ c (ck 0 0 c)) = V m ρ 0 0 c from rfl))) $$ Hs00
  iapply (wp_load_A m ρ (ck 1 0 c) c (off2_eq c)) $$ HA; iintro HA
  iapply (wp_load_slot (M := Memref.whole cc0_scratch1) (off := ![0, 0, 0]) 1 0 c rfl rfl) $$ Hs10; iintro Hs10
  iapply (wp_store_slot (M := Memref.whole cc0_scratch1) (off := ![0, 0, 0]) 1 0 c rfl rfl) $$ Hs10; iintro Hs10
  ihave Hs10 := (Entails.of_eq (congrArg (slotPts (F := F) 1 0 c fullShare) (show k0_pay5 (stgB m ρ c) (aAt m ρ c (ck 1 0 c)) = V m ρ 1 0 c from rfl))) $$ Hs10
  iapply (wp_send_x (src := sqz (bufM 0) 0) (dm := sqz (bufM 0) 1) (q₁ := sndS 0 0) (q₂ := rcvS 0 0) m ρ K 0 0 0 1 0 rfl rfl rfl c _ (dev3_eq c) [(1, 0), (0, 1), (1, 1), (0, 2), (1, 2), (2, 0), (3, 0), (2, 1), (3, 1), (2, 2), (3, 2)] rfl rfl rfl rfl) $$ [Hx00 Hs00 Hn01 HHO]
  · isplitr; · iexact HR
    isplitl [Hx00]; · iexact Hx00
    isplitl [Hs00]; · iexact Hs00
    isplitl [Hn01]; · iexact Hn01
    iexact HHO
  iintro ⟨Hx00, Hs00, HHO⟩
  iapply Hk
  isplitl [HB]; · iexact HB
  isplitl [HA]; · iexact HA
  isplitl [Hs00]; · iexact Hs00
  isplitl [Hs10]; · iexact Hs10
  isplitl [Hx00]; · iexact Hx00
  iexact HHO

/-- Part 3 of the body. -/
theorem wp_part3 (c : Dev nD) (v2 : BitVec 32) (v13 : BitVec 32)
    {α : Type} {Q : α → sProp 𝕄} {kk : (Σ' (v94 : BitVec 32), BitVec 32) → Prog (TpuEff nD τ sig (Elt F) Λ₀ .tc) α} :
    iprop(recs m ρ K ∗ tx 1 0 c ∗ slotPts 1 0 c fullShare (V m ρ 1 0 c) ∗ (∃ w, slotPts (F := F) 1 1 (dst 1 c) fullShare w) ∗ owesAny c (dues c [(1, 0), (0, 1), (1, 1), (0, 2), (1, 2), (2, 0), (3, 0), (2, 1), (3, 1), (2, 2), (3, 2)]))
      ⊢ iprop((∀ (r0 : BitVec 32), ∀ (r1 : BitVec 32), (inFl 1 0 c ∗ slotPts 1 0 c fullShare.right (V m ρ 1 0 c) ∗ owesAny c (dues c [(0, 1), (1, 1), (0, 2), (1, 2), (2, 0), (3, 0), (2, 1), (3, 1), (2, 2), (3, 2)]))
            -∗ wp frame (wpE (defs₀ (F := F)) 𝒱₀ (c : Thread nD τ) none) Set.univ (kk ⟨r0, r1⟩) Q)
          -∗ wp frame (wpE (defs₀ (F := F)) 𝒱₀ (c : Thread nD τ) none) Set.univ
            ((k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v13).bind kk) Q) := by
  rw [k0_part3_eq_skeleton]; unfold k0_part3_skel
  simp only [Prog.lift, Prog.bind_op, Prog.bind_ret, Prog.pure_eq_ret, Prog.bind_assoc, sq_1_0, sq_1_1, snd_1_0, rcv_1_0]
  iintro ⟨#HR, Hx10, Hs10, Hn11, HHO⟩ Hk
  iapply (wp_send_x (src := sqz (bufM 1) 0) (dm := sqz (bufM 1) 1) (q₁ := sndS 1 0) (q₂ := rcvS 1 0) m ρ K 1 0 0 1 0 rfl rfl rfl c _ (dev4_eq c) [(0, 1), (1, 1), (0, 2), (1, 2), (2, 0), (3, 0), (2, 1), (3, 1), (2, 2), (3, 2)] rfl rfl rfl rfl) $$ [Hx10 Hs10 Hn11 HHO]
  · isplitr; · iexact HR
    isplitl [Hx10]; · iexact Hx10
    isplitl [Hs10]; · iexact Hs10
    isplitl [Hn11]; · iexact Hn11
    iexact HHO
  iintro ⟨Hx10, Hs10, HHO⟩
  ispecialize Hk $$ %_ %_
  iapply Hk
  isplitl [Hx10]; · iexact Hx10
  isplitl [Hs10]; · iexact Hs10
  iexact HHO

/-- Part 4 of the body. -/
theorem wp_part4 (c : Dev nD) (v24 : BitVec 32) (v94 : BitVec 32) (v95 : BitVec 32)
    {α : Type} {Q : α → sProp 𝕄} {kk : (Σ' (v99 : FVec F S192x1536 .f32), FVec F S192x1536 .f32) → Prog (TpuEff nD τ sig (Elt F) Λ₀ .tc) α} :
    iprop(recs m ρ K ∗ aPts m ρ c ∗ inFl 0 0 c ∗ slotPts 0 0 c fullShare.right (V m ρ 0 0 c) ∗ owesAny c (dues c [(0, 1), (1, 1), (0, 2), (1, 2), (2, 0), (3, 0), (2, 1), (3, 1), (2, 2), (3, 2)]))
      ⊢ iprop(((aPts m ρ c ∗ over 0 0 c ∗ slotPts 0 0 c fullShare (V m ρ 0 0 c) ∗ owesAny c (dues c [(0, 1), (1, 1), (0, 2), (1, 2), (2, 0), (3, 0), (2, 1), (3, 1), (2, 2), (3, 2)]) ∗ slotPts 0 1 c fullShare (V m ρ 0 0 (frm 0 c)))
            -∗ wp frame (wpE (defs₀ (F := F)) 𝒱₀ (c : Thread nD τ) none) Set.univ (kk ⟨mm m ρ c (ck 0 1 c), mm m ρ c (ck 1 1 c)⟩) Q)
          -∗ wp frame (wpE (defs₀ (F := F)) 𝒱₀ (c : Thread nD τ) none) Set.univ
            ((k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v24 (k0_pay3 (stgB m ρ c)) v94 v95).bind kk) Q) := by
  rw [k0_part4_eq_skeleton]; unfold k0_part4_skel
  simp only [Prog.lift, Prog.bind_op, Prog.bind_ret, Prog.pure_eq_ret, Prog.bind_assoc, sq_0_0, sq_0_1, snd_0_0, rcv_0_0]
  iintro ⟨#HR, HA, Hx00, Hs00, HHO⟩ Hk
  iapply (wp_load_A m ρ (ck 0 1 c) c (off3_0 c)) $$ HA; iintro HA
  iapply (wp_load_A m ρ (ck 1 1 c) c (off4_0 c)) $$ HA; iintro HA
  iapply (wp_wait_snd (q := sndS 0 0) (dm := sqz (bufM 0) 0) m ρ K 0 0 0 1 0 rfl rfl rfl c [(0, 1), (1, 1), (0, 2), (1, 2), (2, 0), (3, 0), (2, 1), (3, 1), (2, 2), (3, 2)] (by decide) rfl (credit_sqz 0 0)) $$ [Hx00 Hs00 HHO]
  · isplitr; · iexact HR
    isplitl [Hx00]; · iexact Hx00
    isplitl [Hs00]; · iexact Hs00
    iexact HHO
  iintro ⟨Hx00, Hs00, HHO⟩
  iapply (wp_wait_rcv (q := rcvS 0 0) (dm := sqz (bufM 0) 1) m ρ K 0 0 0 1 0 rfl rfl rfl c [(0, 1), (1, 1), (0, 2), (1, 2), (2, 0), (3, 0), (2, 1), (3, 1), (2, 2), (3, 2)] (by decide) rfl (credit_sqz 0 1)) $$ [Hx00 HHO]
  · isplitr; · iexact HR
    isplitl [Hx00]; · iexact Hx00
    iexact HHO
  iintro ⟨Hx00, Hs01, HHO⟩
  iapply Hk
  isplitl [HA]; · iexact HA
  isplitl [Hx00]; · iexact Hx00
  isplitl [Hs00]; · iexact Hs00
  isplitl [HHO]; · iexact HHO
  iexact Hs01

/-- Part 5 of the body. -/
theorem wp_part5 (c : Dev nD) (v13 : BitVec 32)
    {α : Type} {Q : α → sProp 𝕄} {kk : PUnit → Prog (TpuEff nD τ sig (Elt F) Λ₀ .tc) α} :
    iprop(recs m ρ K ∗ inFl 1 0 c ∗ slotPts 1 0 c fullShare.right (V m ρ 1 0 c) ∗ owesAny c (dues c [(0, 1), (1, 1), (0, 2), (1, 2), (2, 0), (3, 0), (2, 1), (3, 1), (2, 2), (3, 2)]) ∗ slotPts 0 1 c fullShare (V m ρ 0 0 (frm 0 c)))
      ⊢ iprop(((over 1 0 c ∗ slotPts 1 0 c fullShare (V m ρ 1 0 c) ∗ owesAny c (dues c [(0, 1), (1, 1), (0, 2), (1, 2), (2, 0), (3, 0), (2, 1), (3, 1), (2, 2), (3, 2)]) ∗ slotPts 1 1 c fullShare (V m ρ 1 1 c) ∗ slotPts 0 1 c fullShare (V m ρ 0 1 c))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v13 (mm m ρ c (ck 0 1 c)) (mm m ρ c (ck 1 1 c))).bind kk) Q) := by
  rw [k0_part5_eq_skeleton]; unfold k0_part5_skel
  simp only [Prog.lift, Prog.bind_op, Prog.bind_ret, Prog.pure_eq_ret, Prog.bind_assoc, sq_1_0, sq_1_1, snd_1_0, rcv_1_0]
  iintro ⟨#HR, Hx10, Hs10, HHO, Hs01⟩ Hk
  iapply (wp_wait_snd (q := sndS 1 0) (dm := sqz (bufM 1) 0) m ρ K 1 0 0 1 0 rfl rfl rfl c [(0, 1), (1, 1), (0, 2), (1, 2), (2, 0), (3, 0), (2, 1), (3, 1), (2, 2), (3, 2)] (by decide) rfl (credit_sqz 1 0)) $$ [Hx10 Hs10 HHO]
  · isplitr; · iexact HR
    isplitl [Hx10]; · iexact Hx10
    isplitl [Hs10]; · iexact Hs10
    iexact HHO
  iintro ⟨Hx10, Hs10, HHO⟩
  iapply (wp_wait_rcv (q := rcvS 1 0) (dm := sqz (bufM 1) 1) m ρ K 1 0 0 1 0 rfl rfl rfl c [(0, 1), (1, 1), (0, 2), (1, 2), (2, 0), (3, 0), (2, 1), (3, 1), (2, 2), (3, 2)] (by decide) rfl (credit_sqz 1 1)) $$ [Hx10 HHO]
  · isplitr; · iexact HR
    isplitl [Hx10]; · iexact Hx10
    iexact HHO
  iintro ⟨Hx10, Hs11, HHO⟩
  iapply (wp_load_slot (M := Memref.whole cc0_scratch0) (off := ![1, 0, 0]) 0 1 c rfl rfl) $$ Hs01; iintro Hs01
  iapply (wp_load_slot (M := Memref.whole cc0_scratch1) (off := ![1, 0, 0]) 1 1 c rfl rfl) $$ Hs11; iintro Hs11
  iapply (wp_load_slot (M := Memref.whole cc0_scratch0) (off := ![1, 0, 0]) 0 1 c rfl rfl) $$ Hs01; iintro Hs01
  iapply (wp_store_slot (M := Memref.whole cc0_scratch0) (off := ![1, 0, 0]) 0 1 c rfl rfl) $$ Hs01; iintro Hs01
  ihave Hs01 := (Entails.of_eq (congrArg (slotPts (F := F) 0 1 c fullShare) (show k0_pay8 (mm m ρ c (ck 0 1 c)) (V m ρ 0 0 (frm 0 c)) = V m ρ 0 1 c from rfl))) $$ Hs01
  iapply (wp_load_slot (M := Memref.whole cc0_scratch1) (off := ![1, 0, 0]) 1 1 c rfl rfl) $$ Hs11; iintro Hs11
  iapply (wp_store_slot (M := Memref.whole cc0_scratch1) (off := ![1, 0, 0]) 1 1 c rfl rfl) $$ Hs11; iintro Hs11
  ihave Hs11 := (Entails.of_eq (congrArg (slotPts (F := F) 1 1 c fullShare) (show k0_pay9 (mm m ρ c (ck 1 1 c)) (V m ρ 1 0 (frm 1 c)) = V m ρ 1 1 c from rfl))) $$ Hs11
  iapply Hk
  isplitl [Hx10]; · iexact Hx10
  isplitl [Hs10]; · iexact Hs10
  isplitl [HHO]; · iexact HHO
  isplitl [Hs11]; · iexact Hs11
  iexact Hs01

/-- Part 6 of the body. -/
theorem wp_part6 (c : Dev nD) (v2 : BitVec 32) (v13 : BitVec 32) (v24 : BitVec 32)
    {α : Type} {Q : α → sProp 𝕄} {kk : (Σ' (v181 : BitVec 32), BitVec 32) → Prog (TpuEff nD τ sig (Elt F) Λ₀ .tc) α} :
    iprop(recs m ρ K ∗ tx 0 1 c ∗ slotPts 0 1 c fullShare (V m ρ 0 1 c) ∗ (∃ w, slotPts (F := F) 0 2 (dst 0 c) fullShare w) ∗ owesAny c (dues c [(0, 1), (1, 1), (0, 2), (1, 2), (2, 0), (3, 0), (2, 1), (3, 1), (2, 2), (3, 2)]) ∗ tx 1 1 c ∗ slotPts 1 1 c fullShare (V m ρ 1 1 c) ∗ (∃ w, slotPts (F := F) 1 2 (dst 1 c) fullShare w))
      ⊢ iprop((∀ (r0 : BitVec 32), ∀ (r1 : BitVec 32), (inFl 0 1 c ∗ slotPts 0 1 c fullShare.right (V m ρ 0 1 c) ∗ owesAny c (dues c [(0, 2), (1, 2), (2, 0), (3, 0), (2, 1), (3, 1), (2, 2), (3, 2)]) ∗ inFl 1 1 c ∗ slotPts 1 1 c fullShare.right (V m ρ 1 1 c))
            -∗ wp frame (wpE (defs₀ (F := F)) 𝒱₀ (c : Thread nD τ) none) Set.univ (kk ⟨r0, r1⟩) Q)
          -∗ wp frame (wpE (defs₀ (F := F)) 𝒱₀ (c : Thread nD τ) none) Set.univ
            ((k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v13 v24).bind kk) Q) := by
  rw [k0_part6_eq_skeleton]; unfold k0_part6_skel
  simp only [Prog.lift, Prog.bind_op, Prog.bind_ret, Prog.pure_eq_ret, Prog.bind_assoc, sq_0_1, sq_0_2, snd_0_1, rcv_0_1, sq_1_1, sq_1_2, snd_1_1, rcv_1_1]
  iintro ⟨#HR, Hx01, Hs01, Hn02, HHO, Hx11, Hs11, Hn12⟩ Hk
  iapply (wp_send_x (src := sqz (bufM 0) 1) (dm := sqz (bufM 0) 2) (q₁ := sndS 0 1) (q₂ := rcvS 0 1) m ρ K 0 1 1 2 1 rfl rfl rfl c _ (dev5_eq c) [(1, 1), (0, 2), (1, 2), (2, 0), (3, 0), (2, 1), (3, 1), (2, 2), (3, 2)] rfl rfl rfl rfl) $$ [Hx01 Hs01 Hn02 HHO]
  · isplitr; · iexact HR
    isplitl [Hx01]; · iexact Hx01
    isplitl [Hs01]; · iexact Hs01
    isplitl [Hn02]; · iexact Hn02
    iexact HHO
  iintro ⟨Hx01, Hs01, HHO⟩
  iapply (wp_send_x (src := sqz (bufM 1) 1) (dm := sqz (bufM 1) 2) (q₁ := sndS 1 1) (q₂ := rcvS 1 1) m ρ K 1 1 1 2 1 rfl rfl rfl c _ (dev6_eq c) [(0, 2), (1, 2), (2, 0), (3, 0), (2, 1), (3, 1), (2, 2), (3, 2)] rfl rfl rfl rfl) $$ [Hx11 Hs11 Hn12 HHO]
  · isplitr; · iexact HR
    isplitl [Hx11]; · iexact Hx11
    isplitl [Hs11]; · iexact Hs11
    isplitl [Hn12]; · iexact Hn12
    iexact HHO
  iintro ⟨Hx11, Hs11, HHO⟩
  ispecialize Hk $$ %_ %_
  iapply Hk
  isplitl [Hx01]; · iexact Hx01
  isplitl [Hs01]; · iexact Hs01
  isplitl [HHO]; · iexact HHO
  isplitl [Hx11]; · iexact Hx11
  iexact Hs11

end Cert.KernelIdealProof

end
-- ==== Proof.KernelIdealBodyB.lean ====
/-
# 01_k — the body's parts 7 to 12
-/
module

public import proofs.«01_k».proof.Proof.KernelIdealNames

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- Part 7 of the body. -/
theorem wp_part7 (c : Dev nD) (v24 : BitVec 32) (v181 : BitVec 32) (v182 : BitVec 32)
    {α : Type} {Q : α → sProp 𝕄} {kk : (Σ' (v198 : FVec F S192x1536 .f32), FVec F S192x1536 .f32) → Prog (TpuEff nD τ sig (Elt F) Λ₀ .tc) α} :
    iprop(recs m ρ K ∗ aPts m ρ c ∗ inFl 0 1 c ∗ slotPts 0 1 c fullShare.right (V m ρ 0 1 c) ∗ owesAny c (dues c [(0, 2), (1, 2), (2, 0), (3, 0), (2, 1), (3, 1), (2, 2), (3, 2)]))
      ⊢ iprop(((aPts m ρ c ∗ sent 0 1 c ∗ slotPts 0 1 c fullShare (V m ρ 0 1 c) ∗ owesAny c (dues c [(0, 2), (1, 2), (2, 0), (3, 0), (2, 1), (3, 1), (2, 2), (3, 2)]))
            -∗ wp frame (wpE (defs₀ (F := F)) 𝒱₀ (c : Thread nD τ) none) Set.univ (kk ⟨mm m ρ c (ck 0 2 c), mm m ρ c (ck 1 2 c)⟩) Q)
          -∗ wp frame (wpE (defs₀ (F := F)) 𝒱₀ (c : Thread nD τ) none) Set.univ
            ((k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v24 (k0_pay3 (stgB m ρ c)) v181 v182).bind kk) Q) := by
  rw [k0_part7_eq_skeleton]; unfold k0_part7_skel
  simp only [Prog.lift, Prog.bind_op, Prog.bind_ret, Prog.pure_eq_ret, Prog.bind_assoc, sq_0_1, sq_0_2, snd_0_1]
  iintro ⟨#HR, HA, Hx01, Hs01, HHO⟩ Hk
  iapply (wp_load_A m ρ (ck 0 2 c) c (off3_1 c)) $$ HA; iintro HA
  iapply (wp_load_A m ρ (ck 1 2 c) c (off4_1 c)) $$ HA; iintro HA
  iapply (wp_wait_snd (q := sndS 0 1) (dm := sqz (bufM 0) 1) m ρ K 0 1 1 2 1 rfl rfl rfl c [(0, 2), (1, 2), (2, 0), (3, 0), (2, 1), (3, 1), (2, 2), (3, 2)] (by decide) rfl (credit_sqz 0 1)) $$ [Hx01 Hs01 HHO]
  · isplitr; · iexact HR
    isplitl [Hx01]; · iexact Hx01
    isplitl [Hs01]; · iexact Hs01
    iexact HHO
  iintro ⟨Hx01, Hs01, HHO⟩
  iapply Hk
  isplitl [HA]; · iexact HA
  isplitl [Hx01]; · iexact Hx01
  isplitl [Hs01]; · iexact Hs01
  iexact HHO

/-- Part 8 of the body. -/
theorem wp_part8 (c : Dev nD) (v13 : BitVec 32)
    {α : Type} {Q : α → sProp 𝕄} {kk : (Σ' (v236 : FVec F S192x1536 .f32), FVec F S192x1536 .f32) → Prog (TpuEff nD τ sig (Elt F) Λ₀ .tc) α} :
    iprop(recs m ρ K ∗ sent 0 1 c ∗ owesAny c (dues c [(0, 2), (1, 2), (2, 0), (3, 0), (2, 1), (3, 1), (2, 2), (3, 2)]) ∗ inFl 1 1 c ∗ slotPts 1 1 c fullShare.right (V m ρ 1 1 c))
      ⊢ iprop(((over 0 1 c ∗ slotPts 0 2 c fullShare (V m ρ 0 1 (frm 0 c)) ∗ owesAny c (dues c [(0, 2), (1, 2), (2, 0), (3, 0), (2, 1), (3, 1), (2, 2), (3, 2)]) ∗ over 1 1 c ∗ slotPts 1 1 c fullShare (V m ρ 1 1 c) ∗ slotPts 1 2 c fullShare (V m ρ 1 1 (frm 1 c)))
            -∗ wp frame (wpE (defs₀ (F := F)) 𝒱₀ (c : Thread nD τ) none) Set.univ (kk ⟨acc m ρ 0 1 c, acc m ρ 1 1 c⟩) Q)
          -∗ wp frame (wpE (defs₀ (F := F)) 𝒱₀ (c : Thread nD τ) none) Set.univ
            ((k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v13 (mm m ρ c (ck 0 2 c)) (mm m ρ c (ck 1 2 c))).bind kk) Q) := by
  rw [k0_part8_eq_skeleton]; unfold k0_part8_skel
  simp only [Prog.lift, Prog.bind_op, Prog.bind_ret, Prog.pure_eq_ret, Prog.bind_assoc, sq_0_1, sq_0_2, rcv_0_1, sq_1_1, sq_1_2, snd_1_1, rcv_1_1]
  iintro ⟨#HR, Hx01, HHO, Hx11, Hs11⟩ Hk
  iapply (wp_wait_rcv (q := rcvS 0 1) (dm := sqz (bufM 0) 2) m ρ K 0 1 1 2 1 rfl rfl rfl c [(0, 2), (1, 2), (2, 0), (3, 0), (2, 1), (3, 1), (2, 2), (3, 2)] (by decide) rfl (credit_sqz 0 2)) $$ [Hx01 HHO]
  · isplitr; · iexact HR
    isplitl [Hx01]; · iexact Hx01
    iexact HHO
  iintro ⟨Hx01, Hs02, HHO⟩
  iapply (wp_wait_snd (q := sndS 1 1) (dm := sqz (bufM 1) 1) m ρ K 1 1 1 2 1 rfl rfl rfl c [(0, 2), (1, 2), (2, 0), (3, 0), (2, 1), (3, 1), (2, 2), (3, 2)] (by decide) rfl (credit_sqz 1 1)) $$ [Hx11 Hs11 HHO]
  · isplitr; · iexact HR
    isplitl [Hx11]; · iexact Hx11
    isplitl [Hs11]; · iexact Hs11
    iexact HHO
  iintro ⟨Hx11, Hs11, HHO⟩
  iapply (wp_wait_rcv (q := rcvS 1 1) (dm := sqz (bufM 1) 2) m ρ K 1 1 1 2 1 rfl rfl rfl c [(0, 2), (1, 2), (2, 0), (3, 0), (2, 1), (3, 1), (2, 2), (3, 2)] (by decide) rfl (credit_sqz 1 2)) $$ [Hx11 HHO]
  · isplitr; · iexact HR
    isplitl [Hx11]; · iexact Hx11
    iexact HHO
  iintro ⟨Hx11, Hs12, HHO⟩
  iapply (wp_load_slot (M := Memref.whole cc0_scratch0) (off := ![2, 0, 0]) 0 2 c rfl rfl) $$ Hs02; iintro Hs02
  iapply (wp_load_slot (M := Memref.whole cc0_scratch1) (off := ![2, 0, 0]) 1 2 c rfl rfl) $$ Hs12; iintro Hs12
  iapply Hk
  isplitl [Hx01]; · iexact Hx01
  isplitl [Hs02]; · iexact Hs02
  isplitl [HHO]; · iexact HHO
  isplitl [Hx11]; · iexact Hx11
  isplitl [Hs11]; · iexact Hs11
  iexact Hs12

/-- Part 9 of the body. -/
theorem wp_part9 (c : Dev nD) (v2 : BitVec 32) (v13 : BitVec 32) (v24 : BitVec 32)
    {α : Type} {Q : α → sProp 𝕄} {kk : (BitVec 32) → Prog (TpuEff nD τ sig (Elt F) Λ₀ .tc) α} :
    iprop(recs m ρ K ∗ slotPts 0 2 c fullShare (V m ρ 0 1 (frm 0 c)) ∗ slotPts 1 2 c fullShare (V m ρ 1 1 (frm 1 c)) ∗ tx 0 2 c ∗ (∃ w, slotPts (F := F) 0 3 (dst 0 c) fullShare w) ∗ owesAny c (dues c [(0, 2), (1, 2), (2, 0), (3, 0), (2, 1), (3, 1), (2, 2), (3, 2)]) ∗ tx 1 2 c ∗ (∃ w, slotPts (F := F) 1 3 (dst 1 c) fullShare w))
      ⊢ iprop((∀ (r0 : BitVec 32), (slotPts 0 2 c fullShare.right (V m ρ 0 2 c) ∗ slotPts 1 2 c fullShare.right (V m ρ 1 2 c) ∗ inFl 0 2 c ∗ owesAny c (dues c [(2, 0), (3, 0), (2, 1), (3, 1), (2, 2), (3, 2)]) ∗ inFl 1 2 c)
            -∗ wp frame (wpE (defs₀ (F := F)) 𝒱₀ (c : Thread nD τ) none) Set.univ (kk r0) Q)
          -∗ wp frame (wpE (defs₀ (F := F)) 𝒱₀ (c : Thread nD τ) none) Set.univ
            ((k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v13 v24 (acc m ρ 0 1 c) (acc m ρ 1 1 c)).bind kk) Q) := by
  rw [k0_part9_eq_skeleton]; unfold k0_part9_skel
  simp only [Prog.lift, Prog.bind_op, Prog.bind_ret, Prog.pure_eq_ret, Prog.bind_assoc, sq_0_2, sq_0_3, snd_0_2, rcv_0_2, sq_1_2, sq_1_3, snd_1_2, rcv_1_2]
  iintro ⟨#HR, Hs02, Hs12, Hx02, Hn03, HHO, Hx12, Hn13⟩ Hk
  iapply (wp_load_slot (M := Memref.whole cc0_scratch0) (off := ![2, 0, 0]) 0 2 c rfl rfl) $$ Hs02; iintro Hs02
  iapply (wp_store_slot (M := Memref.whole cc0_scratch0) (off := ![2, 0, 0]) 0 2 c rfl rfl) $$ Hs02; iintro Hs02
  ihave Hs02 := (Entails.of_eq (congrArg (slotPts (F := F) 0 2 c fullShare) (show k0_pay14 (acc m ρ 0 1 c) = V m ρ 0 2 c from rfl))) $$ Hs02
  iapply (wp_load_slot (M := Memref.whole cc0_scratch1) (off := ![2, 0, 0]) 1 2 c rfl rfl) $$ Hs12; iintro Hs12
  iapply (wp_store_slot (M := Memref.whole cc0_scratch1) (off := ![2, 0, 0]) 1 2 c rfl rfl) $$ Hs12; iintro Hs12
  ihave Hs12 := (Entails.of_eq (congrArg (slotPts (F := F) 1 2 c fullShare) (show k0_pay15 (acc m ρ 1 1 c) = V m ρ 1 2 c from rfl))) $$ Hs12
  iapply (wp_send_x (src := sqz (bufM 0) 2) (dm := sqz (bufM 0) 3) (q₁ := sndS 0 2) (q₂ := rcvS 0 2) m ρ K 0 2 2 3 2 rfl rfl rfl c _ (dev7_eq c) [(1, 2), (2, 0), (3, 0), (2, 1), (3, 1), (2, 2), (3, 2)] rfl rfl rfl rfl) $$ [Hx02 Hs02 Hn03 HHO]
  · isplitr; · iexact HR
    isplitl [Hx02]; · iexact Hx02
    isplitl [Hs02]; · iexact Hs02
    isplitl [Hn03]; · iexact Hn03
    iexact HHO
  iintro ⟨Hx02, Hs02, HHO⟩
  iapply (wp_send_x (src := sqz (bufM 1) 2) (dm := sqz (bufM 1) 3) (q₁ := sndS 1 2) (q₂ := rcvS 1 2) m ρ K 1 2 2 3 2 rfl rfl rfl c _ (dev8_eq c) [(2, 0), (3, 0), (2, 1), (3, 1), (2, 2), (3, 2)] rfl rfl rfl rfl) $$ [Hx12 Hs12 Hn13 HHO]
  · isplitr; · iexact HR
    isplitl [Hx12]; · iexact Hx12
    isplitl [Hs12]; · iexact Hs12
    isplitl [Hn13]; · iexact Hn13
    iexact HHO
  iintro ⟨Hx12, Hs12, HHO⟩
  ispecialize Hk $$ %_
  iapply Hk
  isplitl [Hs02]; · iexact Hs02
  isplitl [Hs12]; · iexact Hs12
  isplitl [Hx02]; · iexact Hx02
  isplitl [HHO]; · iexact HHO
  iexact Hx12

/-- Part 10 of the body. -/
theorem wp_part10 (c : Dev nD) (v2 : BitVec 32) (v269 : BitVec 32)
    {α : Type} {Q : α → sProp 𝕄} {kk : (Σ' (v280 : BitVec 32) (v292 : BitVec 32) (v297 : FVec F S192x1536 .f32), FVec F S192x1536 .f32) → Prog (TpuEff nD τ sig (Elt F) Λ₀ .tc) α} :
    iprop(aPts m ρ c)
      ⊢ iprop((∀ (v280 : BitVec 32), ∀ (v292 : BitVec 32), (aPts m ρ c)
            -∗ wp frame (wpE (defs₀ (F := F)) 𝒱₀ (c : Thread nD τ) none) Set.univ (kk ⟨v280, v292, mm m ρ c (ck 0 3 c), mm m ρ c (ck 1 3 c)⟩) Q)
          -∗ wp frame (wpE (defs₀ (F := F)) 𝒱₀ (c : Thread nD τ) none) Set.univ
            ((k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 (k0_pay3 (stgB m ρ c)) v269).bind kk) Q) := by
  rw [k0_part10_eq_skeleton]; unfold k0_part10_skel
  simp only [Prog.lift, Prog.bind_op, Prog.bind_ret, Prog.pure_eq_ret, Prog.bind_assoc]
  iintro HA Hk
  iapply (wp_load_A m ρ (ck 0 3 c) c (off3_2 c)) $$ HA; iintro HA
  iapply (wp_load_A m ρ (ck 1 3 c) c (off4_2 c)) $$ HA; iintro HA
  ispecialize Hk $$ %_ %_
  iapply Hk
  iexact HA

/-- Part 11 of the body. -/
theorem wp_part11 (c : Dev nD) (v13 : BitVec 32) (v24 : BitVec 32)
    {α : Type} {Q : α → sProp 𝕄} {kk : PUnit → Prog (TpuEff nD τ sig (Elt F) Λ₀ .tc) α} :
    iprop(recs m ρ K ∗ inFl 0 2 c ∗ slotPts 0 2 c fullShare.right (V m ρ 0 2 c) ∗ owesAny c (dues c [(2, 0), (3, 0), (2, 1), (3, 1), (2, 2), (3, 2)]) ∗ inFl 1 2 c ∗ slotPts 1 2 c fullShare.right (V m ρ 1 2 c))
      ⊢ iprop(((over 0 2 c ∗ slotPts 0 2 c fullShare (V m ρ 0 2 c) ∗ owesAny c (dues c [(2, 0), (3, 0), (2, 1), (3, 1), (2, 2), (3, 2)]) ∗ slotPts 0 3 c fullShare (V m ρ 0 2 (frm 0 c)) ∗ sent 1 2 c ∗ slotPts 1 2 c fullShare (V m ρ 1 2 c))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v13 v24).bind kk) Q) := by
  rw [k0_part11_eq_skeleton]; unfold k0_part11_skel
  simp only [Prog.lift, Prog.bind_op, Prog.bind_ret, Prog.pure_eq_ret, Prog.bind_assoc, sq_0_2, sq_0_3, snd_0_2, rcv_0_2, sq_1_2, sq_1_3, snd_1_2]
  iintro ⟨#HR, Hx02, Hs02, HHO, Hx12, Hs12⟩ Hk
  iapply (wp_wait_snd (q := sndS 0 2) (dm := sqz (bufM 0) 2) m ρ K 0 2 2 3 2 rfl rfl rfl c [(2, 0), (3, 0), (2, 1), (3, 1), (2, 2), (3, 2)] (by decide) rfl (credit_sqz 0 2)) $$ [Hx02 Hs02 HHO]
  · isplitr; · iexact HR
    isplitl [Hx02]; · iexact Hx02
    isplitl [Hs02]; · iexact Hs02
    iexact HHO
  iintro ⟨Hx02, Hs02, HHO⟩
  iapply (wp_wait_rcv (q := rcvS 0 2) (dm := sqz (bufM 0) 3) m ρ K 0 2 2 3 2 rfl rfl rfl c [(2, 0), (3, 0), (2, 1), (3, 1), (2, 2), (3, 2)] (by decide) rfl (credit_sqz 0 3)) $$ [Hx02 HHO]
  · isplitr; · iexact HR
    isplitl [Hx02]; · iexact Hx02
    iexact HHO
  iintro ⟨Hx02, Hs03, HHO⟩
  iapply (wp_wait_snd (q := sndS 1 2) (dm := sqz (bufM 1) 2) m ρ K 1 2 2 3 2 rfl rfl rfl c [(2, 0), (3, 0), (2, 1), (3, 1), (2, 2), (3, 2)] (by decide) rfl (credit_sqz 1 2)) $$ [Hx12 Hs12 HHO]
  · isplitr; · iexact HR
    isplitl [Hx12]; · iexact Hx12
    isplitl [Hs12]; · iexact Hs12
    iexact HHO
  iintro ⟨Hx12, Hs12, HHO⟩
  iapply Hk
  isplitl [Hx02]; · iexact Hx02
  isplitl [Hs02]; · iexact Hs02
  isplitl [HHO]; · iexact HHO
  isplitl [Hs03]; · iexact Hs03
  isplitl [Hx12]; · iexact Hx12
  iexact Hs12

/-- Part 12 of the body. -/
theorem wp_part12 (c : Dev nD) {w2 w3 : SlotV F} (v24 : BitVec 32)
    {α : Type} {Q : α → sProp 𝕄} {kk : (Σ' (v335 : FVec F S192x1536 .f32), FVec F S192x1536 .f32) → Prog (TpuEff nD τ sig (Elt F) Λ₀ .tc) α} :
    iprop(recs m ρ K ∗ sent 1 2 c ∗ owesAny c (dues c [(2, 0), (3, 0), (2, 1), (3, 1), (2, 2), (3, 2)]) ∗ slotPts 0 3 c fullShare (V m ρ 0 2 (frm 0 c)) ∗ slotPts 2 0 c fullShare (w2) ∗ slotPts 3 0 c fullShare (w3) ∗ tx 2 0 c ∗ (∃ w, slotPts (F := F) 2 1 (dst 2 c) fullShare w))
      ⊢ iprop(((over 1 2 c ∗ slotPts 1 3 c fullShare (V m ρ 1 2 (frm 1 c)) ∗ owesAny c (dues c [(3, 0), (2, 1), (3, 1), (2, 2), (3, 2)]) ∗ slotPts 0 3 c fullShare (V m ρ 0 2 (frm 0 c)) ∗ slotPts 2 0 c fullShare.right (V m ρ 2 0 c) ∗ slotPts 3 0 c fullShare (V m ρ 3 0 c) ∗ inFl 2 0 c)
            -∗ wp frame (wpE (defs₀ (F := F)) 𝒱₀ (c : Thread nD τ) none) Set.univ (kk ⟨acc m ρ 0 2 c, acc m ρ 1 2 c⟩) Q)
          -∗ wp frame (wpE (defs₀ (F := F)) 𝒱₀ (c : Thread nD τ) none) Set.univ
            ((k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v24 (mm m ρ c (ck 0 3 c)) (mm m ρ c (ck 1 3 c))).bind kk) Q) := by
  rw [k0_part12_eq_skeleton]; unfold k0_part12_skel
  simp only [Prog.lift, Prog.bind_op, Prog.bind_ret, Prog.pure_eq_ret, Prog.bind_assoc, sq_1_2, sq_1_3, rcv_1_2, sq_2_0, sq_2_1, snd_2_0, rcv_2_0]
  iintro ⟨#HR, Hx12, HHO, Hs03, Hs20, Hs30, Hx20, Hn21⟩ Hk
  iapply (wp_wait_rcv (q := rcvS 1 2) (dm := sqz (bufM 1) 3) m ρ K 1 2 2 3 2 rfl rfl rfl c [(2, 0), (3, 0), (2, 1), (3, 1), (2, 2), (3, 2)] (by decide) rfl (credit_sqz 1 3)) $$ [Hx12 HHO]
  · isplitr; · iexact HR
    isplitl [Hx12]; · iexact Hx12
    iexact HHO
  iintro ⟨Hx12, Hs13, HHO⟩
  iapply (wp_load_slot (M := Memref.whole cc0_scratch0) (off := ![3, 0, 0]) 0 3 c rfl rfl) $$ Hs03; iintro Hs03
  iapply (wp_load_slot (M := Memref.whole cc0_scratch1) (off := ![3, 0, 0]) 1 3 c rfl rfl) $$ Hs13; iintro Hs13
  iapply (wp_load_slot (M := Memref.whole cc0_scratch2) (off := ![0, 0, 0]) 2 0 c rfl rfl) $$ Hs20; iintro Hs20
  iapply (wp_store_slot (M := Memref.whole cc0_scratch2) (off := ![0, 0, 0]) 2 0 c rfl rfl) $$ Hs20; iintro Hs20
  ihave Hs20 := (Entails.of_eq (congrArg (slotPts (F := F) 2 0 c fullShare) (show k0_pay20 (mm m ρ c (ck 0 3 c)) (V m ρ 0 2 (frm 0 c)) = V m ρ 2 0 c from rfl))) $$ Hs20
  iapply (wp_load_slot (M := Memref.whole cc0_scratch3) (off := ![0, 0, 0]) 3 0 c rfl rfl) $$ Hs30; iintro Hs30
  iapply (wp_store_slot (M := Memref.whole cc0_scratch3) (off := ![0, 0, 0]) 3 0 c rfl rfl) $$ Hs30; iintro Hs30
  ihave Hs30 := (Entails.of_eq (congrArg (slotPts (F := F) 3 0 c fullShare) (show k0_pay21 (mm m ρ c (ck 1 3 c)) (V m ρ 1 2 (frm 1 c)) = V m ρ 3 0 c from rfl))) $$ Hs30
  iapply (wp_send_x (src := sqz (bufM 2) 0) (dm := sqz (bufM 2) 1) (q₁ := sndS 2 0) (q₂ := rcvS 2 0) m ρ K 2 0 0 1 0 rfl rfl rfl c _ (dev9_eq c) [(3, 0), (2, 1), (3, 1), (2, 2), (3, 2)] rfl rfl rfl rfl) $$ [Hx20 Hs20 Hn21 HHO]
  · isplitr; · iexact HR
    isplitl [Hx20]; · iexact Hx20
    isplitl [Hs20]; · iexact Hs20
    isplitl [Hn21]; · iexact Hn21
    iexact HHO
  iintro ⟨Hx20, Hs20, HHO⟩
  iapply Hk
  isplitl [Hx12]; · iexact Hx12
  isplitl [Hs13]; · iexact Hs13
  isplitl [HHO]; · iexact HHO
  isplitl [Hs03]; · iexact Hs03
  isplitl [Hs20]; · iexact Hs20
  isplitl [Hs30]; · iexact Hs30
  iexact Hx20

end Cert.KernelIdealProof

end
-- ==== Proof.KernelIdealBodyC.lean ====
/-
# 01_k — the body's parts 13 to 16
-/
module

public import proofs.«01_k».proof.Proof.KernelIdealNames

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- Part 13 of the body. -/
theorem wp_part13 (c : Dev nD) {f : (cc0_stg2_0 : Ref sig .tc).ty.Contents (Elt F)} (v13 : BitVec 32) (v280 : BitVec 32) (v292 : BitVec 32)
    {α : Type} {Q : α → sProp 𝕄} {kk : PUnit → Prog (TpuEff nD τ sig (Elt F) Λ₀ .tc) α} :
    iprop(recs m ρ K ∗ tx 3 0 c ∗ slotPts 3 0 c fullShare (V m ρ 3 0 c) ∗ (∃ w, slotPts (F := F) 3 1 (dst 3 c) fullShare w) ∗ owesAny c (dues c [(3, 0), (2, 1), (3, 1), (2, 2), (3, 2)]) ∗ oPts c f)
      ⊢ iprop(((inFl 3 0 c ∗ slotPts 3 0 c fullShare.right (V m ρ 3 0 c) ∗ owesAny c (dues c [(2, 1), (3, 1), (2, 2), (3, 2)]) ∗ oPts c (outW (outW f (ck 0 3 c) (k0_pay22 (acc m ρ 0 2 c))) (ck 1 3 c) (k0_pay23 (acc m ρ 1 2 c))))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v13 v280 v292 (acc m ρ 0 2 c) (acc m ρ 1 2 c)).bind kk) Q) := by
  rw [k0_part13_eq_skeleton]; unfold k0_part13_skel
  simp only [Prog.lift, Prog.bind_op, Prog.bind_ret, Prog.pure_eq_ret, Prog.bind_assoc, sq_3_0, sq_3_1, snd_3_0, rcv_3_0]
  iintro ⟨#HR, Hx30, Hs30, Hn31, HHO, HO⟩ Hk
  iapply (wp_send_x (src := sqz (bufM 3) 0) (dm := sqz (bufM 3) 1) (q₁ := sndS 3 0) (q₂ := rcvS 3 0) m ρ K 3 0 0 1 0 rfl rfl rfl c _ (dev10_eq c) [(2, 1), (3, 1), (2, 2), (3, 2)] rfl rfl rfl rfl) $$ [Hx30 Hs30 Hn31 HHO]
  · isplitr; · iexact HR
    isplitl [Hx30]; · iexact Hx30
    isplitl [Hs30]; · iexact Hs30
    isplitl [Hn31]; · iexact Hn31
    iexact HHO
  iintro ⟨Hx30, Hs30, HHO⟩
  iapply (wp_load_O c) $$ HO; iintro HO
  iapply (wp_store_O (ck 0 3 c) c (off5_eq c)) $$ HO; iintro HO
  iapply (wp_load_O c) $$ HO; iintro HO
  iapply (wp_store_O (ck 1 3 c) c (off6_eq c)) $$ HO; iintro HO
  iapply Hk
  isplitl [Hx30]; · iexact Hx30
  isplitl [Hs30]; · iexact Hs30
  isplitl [HHO]; · iexact HHO
  iexact HO

/-- Part 14 of the body. -/
theorem wp_part14 (c : Dev nD) (v13 : BitVec 32) (v24 : BitVec 32)
    {α : Type} {Q : α → sProp 𝕄} {kk : PUnit → Prog (TpuEff nD τ sig (Elt F) Λ₀ .tc) α} :
    iprop(recs m ρ K ∗ inFl 2 0 c ∗ slotPts 2 0 c fullShare.right (V m ρ 2 0 c) ∗ owesAny c (dues c [(2, 1), (3, 1), (2, 2), (3, 2)]) ∗ inFl 3 0 c ∗ slotPts 3 0 c fullShare.right (V m ρ 3 0 c))
      ⊢ iprop(((over 2 0 c ∗ slotPts 2 0 c fullShare (V m ρ 2 0 c) ∗ owesAny c (dues c [(2, 1), (3, 1), (2, 2), (3, 2)]) ∗ slotPts 2 1 c fullShare (V m ρ 2 0 (frm 2 c)) ∗ over 3 0 c ∗ slotPts 3 0 c fullShare (V m ρ 3 0 c) ∗ slotPts 3 1 c fullShare (V m ρ 3 0 (frm 3 c)))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v13 v24).bind kk) Q) := by
  rw [k0_part14_eq_skeleton]; unfold k0_part14_skel
  simp only [Prog.lift, Prog.bind_op, Prog.bind_ret, Prog.pure_eq_ret, Prog.bind_assoc, sq_2_0, sq_2_1, snd_2_0, rcv_2_0, sq_3_0, sq_3_1, snd_3_0, rcv_3_0]
  iintro ⟨#HR, Hx20, Hs20, HHO, Hx30, Hs30⟩ Hk
  iapply (wp_wait_snd (q := sndS 2 0) (dm := sqz (bufM 2) 0) m ρ K 2 0 0 1 0 rfl rfl rfl c [(2, 1), (3, 1), (2, 2), (3, 2)] (by decide) rfl (credit_sqz 2 0)) $$ [Hx20 Hs20 HHO]
  · isplitr; · iexact HR
    isplitl [Hx20]; · iexact Hx20
    isplitl [Hs20]; · iexact Hs20
    iexact HHO
  iintro ⟨Hx20, Hs20, HHO⟩
  iapply (wp_wait_rcv (q := rcvS 2 0) (dm := sqz (bufM 2) 1) m ρ K 2 0 0 1 0 rfl rfl rfl c [(2, 1), (3, 1), (2, 2), (3, 2)] (by decide) rfl (credit_sqz 2 1)) $$ [Hx20 HHO]
  · isplitr; · iexact HR
    isplitl [Hx20]; · iexact Hx20
    iexact HHO
  iintro ⟨Hx20, Hs21, HHO⟩
  iapply (wp_wait_snd (q := sndS 3 0) (dm := sqz (bufM 3) 0) m ρ K 3 0 0 1 0 rfl rfl rfl c [(2, 1), (3, 1), (2, 2), (3, 2)] (by decide) rfl (credit_sqz 3 0)) $$ [Hx30 Hs30 HHO]
  · isplitr; · iexact HR
    isplitl [Hx30]; · iexact Hx30
    isplitl [Hs30]; · iexact Hs30
    iexact HHO
  iintro ⟨Hx30, Hs30, HHO⟩
  iapply (wp_wait_rcv (q := rcvS 3 0) (dm := sqz (bufM 3) 1) m ρ K 3 0 0 1 0 rfl rfl rfl c [(2, 1), (3, 1), (2, 2), (3, 2)] (by decide) rfl (credit_sqz 3 1)) $$ [Hx30 HHO]
  · isplitr; · iexact HR
    isplitl [Hx30]; · iexact Hx30
    iexact HHO
  iintro ⟨Hx30, Hs31, HHO⟩
  iapply Hk
  isplitl [Hx20]; · iexact Hx20
  isplitl [Hs20]; · iexact Hs20
  isplitl [HHO]; · iexact HHO
  isplitl [Hs21]; · iexact Hs21
  isplitl [Hx30]; · iexact Hx30
  isplitl [Hs30]; · iexact Hs30
  iexact Hs31

/-- Part 15 of the body. -/
theorem wp_part15 (c : Dev nD) (v2 : BitVec 32) (v13 : BitVec 32) (v24 : BitVec 32)
    {α : Type} {Q : α → sProp 𝕄} {kk : (Σ' (v445 : BitVec 32), BitVec 32) → Prog (TpuEff nD τ sig (Elt F) Λ₀ .tc) α} :
    iprop(recs m ρ K ∗ slotPts 2 1 c fullShare (V m ρ 2 0 (frm 2 c)) ∗ slotPts 3 1 c fullShare (V m ρ 3 0 (frm 3 c)) ∗ tx 2 1 c ∗ (∃ w, slotPts (F := F) 2 2 (dst 2 c) fullShare w) ∗ owesAny c (dues c [(2, 1), (3, 1), (2, 2), (3, 2)]) ∗ tx 3 1 c ∗ (∃ w, slotPts (F := F) 3 2 (dst 3 c) fullShare w))
      ⊢ iprop((∀ (r0 : BitVec 32), ∀ (r1 : BitVec 32), (slotPts 2 1 c fullShare.right (V m ρ 2 1 c) ∗ slotPts 3 1 c fullShare.right (V m ρ 3 1 c) ∗ inFl 2 1 c ∗ owesAny c (dues c [(2, 2), (3, 2)]) ∗ inFl 3 1 c)
            -∗ wp frame (wpE (defs₀ (F := F)) 𝒱₀ (c : Thread nD τ) none) Set.univ (kk ⟨r0, r1⟩) Q)
          -∗ wp frame (wpE (defs₀ (F := F)) 𝒱₀ (c : Thread nD τ) none) Set.univ
            ((k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v13 v24).bind kk) Q) := by
  rw [k0_part15_eq_skeleton]; unfold k0_part15_skel
  simp only [Prog.lift, Prog.bind_op, Prog.bind_ret, Prog.pure_eq_ret, Prog.bind_assoc, sq_2_1, sq_2_2, snd_2_1, rcv_2_1, sq_3_1, sq_3_2, snd_3_1, rcv_3_1]
  iintro ⟨#HR, Hs21, Hs31, Hx21, Hn22, HHO, Hx31, Hn32⟩ Hk
  ihave Hs21 := (Entails.of_eq (congrArg (slotPts (F := F) 2 1 c fullShare) (show V m ρ 2 0 (frm 2 c) = V m ρ 2 1 c from rfl))) $$ Hs21
  ihave Hs31 := (Entails.of_eq (congrArg (slotPts (F := F) 3 1 c fullShare) (show V m ρ 3 0 (frm 3 c) = V m ρ 3 1 c from rfl))) $$ Hs31
  iapply (wp_send_x (src := sqz (bufM 2) 1) (dm := sqz (bufM 2) 2) (q₁ := sndS 2 1) (q₂ := rcvS 2 1) m ρ K 2 1 1 2 1 rfl rfl rfl c _ (dev11_eq c) [(3, 1), (2, 2), (3, 2)] rfl rfl rfl rfl) $$ [Hx21 Hs21 Hn22 HHO]
  · isplitr; · iexact HR
    isplitl [Hx21]; · iexact Hx21
    isplitl [Hs21]; · iexact Hs21
    isplitl [Hn22]; · iexact Hn22
    iexact HHO
  iintro ⟨Hx21, Hs21, HHO⟩
  iapply (wp_send_x (src := sqz (bufM 3) 1) (dm := sqz (bufM 3) 2) (q₁ := sndS 3 1) (q₂ := rcvS 3 1) m ρ K 3 1 1 2 1 rfl rfl rfl c _ (dev12_eq c) [(2, 2), (3, 2)] rfl rfl rfl rfl) $$ [Hx31 Hs31 Hn32 HHO]
  · isplitr; · iexact HR
    isplitl [Hx31]; · iexact Hx31
    isplitl [Hs31]; · iexact Hs31
    isplitl [Hn32]; · iexact Hn32
    iexact HHO
  iintro ⟨Hx31, Hs31, HHO⟩
  ispecialize Hk $$ %_ %_
  iapply Hk
  isplitl [Hs21]; · iexact Hs21
  isplitl [Hs31]; · iexact Hs31
  isplitl [Hx21]; · iexact Hx21
  isplitl [HHO]; · iexact HHO
  iexact Hx31

/-- Part 16 of the body. -/
theorem wp_part16 (c : Dev nD) {f : (cc0_stg2_0 : Ref sig .tc).ty.Contents (Elt F)} (v445 : BitVec 32) (v446 : BitVec 32)
    {α : Type} {Q : α → sProp 𝕄} {kk : PUnit → Prog (TpuEff nD τ sig (Elt F) Λ₀ .tc) α} :
    iprop(slotPts 2 1 c fullShare.right (V m ρ 2 1 c) ∗ oPts c f ∗ slotPts 3 1 c fullShare.right (V m ρ 3 1 c))
      ⊢ iprop(((slotPts 2 1 c fullShare.right (V m ρ 2 1 c) ∗ oPts c (outW (outW f (ck 0 0 c) (k0_pay24 (V m ρ 2 1 c))) (ck 1 0 c) (k0_pay25 (V m ρ 3 1 c))) ∗ slotPts 3 1 c fullShare.right (V m ρ 3 1 c))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part16 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v445 v446).bind kk) Q) := by
  rw [k0_part16_eq_skeleton]; unfold k0_part16_skel
  simp only [Prog.lift, Prog.bind_op, Prog.bind_ret, Prog.pure_eq_ret, Prog.bind_assoc]
  iintro ⟨Hs21, HO, Hs31⟩ Hk
  iapply (wp_load_slot (M := Memref.whole cc0_scratch2) (off := ![1, 0, 0]) 2 1 c rfl rfl) $$ Hs21; iintro Hs21
  iapply (wp_load_O c) $$ HO; iintro HO
  iapply (wp_store_O (ck 0 0 c) c (off7_0 c)) $$ HO; iintro HO
  iapply (wp_load_slot (M := Memref.whole cc0_scratch3) (off := ![1, 0, 0]) 3 1 c rfl rfl) $$ Hs31; iintro Hs31
  iapply (wp_load_O c) $$ HO; iintro HO
  iapply (wp_store_O (ck 1 0 c) c (off8_0 c)) $$ HO; iintro HO
  iapply Hk
  isplitl [Hs21]; · iexact Hs21
  isplitl [HO]; · iexact HO
  iexact Hs31

end Cert.KernelIdealProof

end
-- ==== Proof.KernelIdealBodyD.lean ====
/-
# 01_k — the body's parts 17 to 21
-/
module

public import proofs.«01_k».proof.Proof.KernelIdealNames

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- Part 17 of the body. -/
theorem wp_part17 (c : Dev nD) (v13 : BitVec 32) (v24 : BitVec 32)
    {α : Type} {Q : α → sProp 𝕄} {kk : PUnit → Prog (TpuEff nD τ sig (Elt F) Λ₀ .tc) α} :
    iprop(recs m ρ K ∗ inFl 2 1 c ∗ slotPts 2 1 c fullShare.right (V m ρ 2 1 c) ∗ owesAny c (dues c [(2, 2), (3, 2)]) ∗ inFl 3 1 c ∗ slotPts 3 1 c fullShare.right (V m ρ 3 1 c))
      ⊢ iprop(((over 2 1 c ∗ slotPts 2 1 c fullShare (V m ρ 2 1 c) ∗ owesAny c (dues c [(2, 2), (3, 2)]) ∗ slotPts 2 2 c fullShare (V m ρ 2 1 (frm 2 c)) ∗ sent 3 1 c ∗ slotPts 3 1 c fullShare (V m ρ 3 1 c))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part17 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v13 v24).bind kk) Q) := by
  rw [k0_part17_eq_skeleton]; unfold k0_part17_skel
  simp only [Prog.lift, Prog.bind_op, Prog.bind_ret, Prog.pure_eq_ret, Prog.bind_assoc, sq_2_1, sq_2_2, snd_2_1, rcv_2_1, sq_3_1, sq_3_2, snd_3_1]
  iintro ⟨#HR, Hx21, Hs21, HHO, Hx31, Hs31⟩ Hk
  iapply (wp_wait_snd (q := sndS 2 1) (dm := sqz (bufM 2) 1) m ρ K 2 1 1 2 1 rfl rfl rfl c [(2, 2), (3, 2)] (by decide) rfl (credit_sqz 2 1)) $$ [Hx21 Hs21 HHO]
  · isplitr; · iexact HR
    isplitl [Hx21]; · iexact Hx21
    isplitl [Hs21]; · iexact Hs21
    iexact HHO
  iintro ⟨Hx21, Hs21, HHO⟩
  iapply (wp_wait_rcv (q := rcvS 2 1) (dm := sqz (bufM 2) 2) m ρ K 2 1 1 2 1 rfl rfl rfl c [(2, 2), (3, 2)] (by decide) rfl (credit_sqz 2 2)) $$ [Hx21 HHO]
  · isplitr; · iexact HR
    isplitl [Hx21]; · iexact Hx21
    iexact HHO
  iintro ⟨Hx21, Hs22, HHO⟩
  iapply (wp_wait_snd (q := sndS 3 1) (dm := sqz (bufM 3) 1) m ρ K 3 1 1 2 1 rfl rfl rfl c [(2, 2), (3, 2)] (by decide) rfl (credit_sqz 3 1)) $$ [Hx31 Hs31 HHO]
  · isplitr; · iexact HR
    isplitl [Hx31]; · iexact Hx31
    isplitl [Hs31]; · iexact Hs31
    iexact HHO
  iintro ⟨Hx31, Hs31, HHO⟩
  iapply Hk
  isplitl [Hx21]; · iexact Hx21
  isplitl [Hs21]; · iexact Hs21
  isplitl [HHO]; · iexact HHO
  isplitl [Hs22]; · iexact Hs22
  isplitl [Hx31]; · iexact Hx31
  iexact Hs31

/-- Part 18 of the body. -/
theorem wp_part18 (c : Dev nD) (v2 : BitVec 32) (v13 : BitVec 32) (v24 : BitVec 32)
    {α : Type} {Q : α → sProp 𝕄} {kk : (Σ' (v532 : BitVec 32) (v533 : BitVec 32), BitVec 1) → Prog (TpuEff nD τ sig (Elt F) Λ₀ .tc) α} :
    iprop(recs m ρ K ∗ sent 3 1 c ∗ owesAny c (dues c [(2, 2), (3, 2)]) ∗ slotPts 2 2 c fullShare (V m ρ 2 1 (frm 2 c)) ∗ tx 2 2 c ∗ (∃ w, slotPts (F := F) 2 3 (dst 2 c) fullShare w) ∗ tx 3 2 c ∗ (∃ w, slotPts (F := F) 3 3 (dst 3 c) fullShare w))
      ⊢ iprop((∀ (r0 : BitVec 32), ∀ (r1 : BitVec 32), ∀ (r2 : BitVec 1), (over 3 1 c ∗ slotPts 3 2 c fullShare.right (V m ρ 3 2 c) ∗ owesAny c (dues c []) ∗ slotPts 2 2 c fullShare.right (V m ρ 2 2 c) ∗ inFl 2 2 c ∗ inFl 3 2 c)
            -∗ wp frame (wpE (defs₀ (F := F)) 𝒱₀ (c : Thread nD τ) none) Set.univ (kk ⟨r0, r1, r2⟩) Q)
          -∗ wp frame (wpE (defs₀ (F := F)) 𝒱₀ (c : Thread nD τ) none) Set.univ
            ((k0_part18 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v13 v24).bind kk) Q) := by
  rw [k0_part18_eq_skeleton]; unfold k0_part18_skel
  simp only [Prog.lift, Prog.bind_op, Prog.bind_ret, Prog.pure_eq_ret, Prog.bind_assoc, sq_3_1, sq_3_2, rcv_3_1, sq_2_2, sq_2_3, snd_2_2, rcv_2_2, sq_3_3, snd_3_2, rcv_3_2]
  iintro ⟨#HR, Hx31, HHO, Hs22, Hx22, Hn23, Hx32, Hn33⟩ Hk
  iapply (wp_wait_rcv (q := rcvS 3 1) (dm := sqz (bufM 3) 2) m ρ K 3 1 1 2 1 rfl rfl rfl c [(2, 2), (3, 2)] (by decide) rfl (credit_sqz 3 2)) $$ [Hx31 HHO]
  · isplitr; · iexact HR
    isplitl [Hx31]; · iexact Hx31
    iexact HHO
  iintro ⟨Hx31, Hs32, HHO⟩
  ihave Hs22 := (Entails.of_eq (congrArg (slotPts (F := F) 2 2 c fullShare) (show V m ρ 2 1 (frm 2 c) = V m ρ 2 2 c from rfl))) $$ Hs22
  ihave Hs32 := (Entails.of_eq (congrArg (slotPts (F := F) 3 2 c fullShare) (show V m ρ 3 1 (frm 3 c) = V m ρ 3 2 c from rfl))) $$ Hs32
  iapply (wp_send_x (src := sqz (bufM 2) 2) (dm := sqz (bufM 2) 3) (q₁ := sndS 2 2) (q₂ := rcvS 2 2) m ρ K 2 2 2 3 2 rfl rfl rfl c _ (dev13_eq c) [(3, 2)] rfl rfl rfl rfl) $$ [Hx22 Hs22 Hn23 HHO]
  · isplitr; · iexact HR
    isplitl [Hx22]; · iexact Hx22
    isplitl [Hs22]; · iexact Hs22
    isplitl [Hn23]; · iexact Hn23
    iexact HHO
  iintro ⟨Hx22, Hs22, HHO⟩
  iapply (wp_send_x (src := sqz (bufM 3) 2) (dm := sqz (bufM 3) 3) (q₁ := sndS 3 2) (q₂ := rcvS 3 2) m ρ K 3 2 2 3 2 rfl rfl rfl c _ (dev14_eq c) [] rfl rfl rfl rfl) $$ [Hx32 Hs32 Hn33 HHO]
  · isplitr; · iexact HR
    isplitl [Hx32]; · iexact Hx32
    isplitl [Hs32]; · iexact Hs32
    isplitl [Hn33]; · iexact Hn33
    iexact HHO
  iintro ⟨Hx32, Hs32, HHO⟩
  ispecialize Hk $$ %_ %_ %_
  iapply Hk
  isplitl [Hx31]; · iexact Hx31
  isplitl [Hs32]; · iexact Hs32
  isplitl [HHO]; · iexact HHO
  isplitl [Hs22]; · iexact Hs22
  isplitl [Hx22]; · iexact Hx22
  iexact Hx32

/-- Part 19 of the body. -/
theorem wp_part19 (c : Dev nD) {f : (cc0_stg2_0 : Ref sig .tc).ty.Contents (Elt F)} (v2 : BitVec 32) (v532 : BitVec 32) (v533 : BitVec 32) (v534 : BitVec 1)
    {α : Type} {Q : α → sProp 𝕄} {kk : (Σ' (v551 : BitVec 32), FVec F S192x1536 .f32) → Prog (TpuEff nD τ sig (Elt F) Λ₀ .tc) α} :
    iprop(slotPts 2 2 c fullShare.right (V m ρ 2 2 c) ∗ oPts c f ∗ slotPts 3 2 c fullShare.right (V m ρ 3 2 c))
      ⊢ iprop((∀ (v551 : BitVec 32), (slotPts 2 2 c fullShare.right (V m ρ 2 2 c) ∗ oPts c (outW f (ck 0 1 c) (k0_pay26 (V m ρ 2 2 c))) ∗ slotPts 3 2 c fullShare.right (V m ρ 3 2 c))
            -∗ wp frame (wpE (defs₀ (F := F)) 𝒱₀ (c : Thread nD τ) none) Set.univ (kk ⟨v551, k0_pay27 (V m ρ 3 2 c)⟩) Q)
          -∗ wp frame (wpE (defs₀ (F := F)) 𝒱₀ (c : Thread nD τ) none) Set.univ
            ((k0_part19 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v2 v532 v533 v534).bind kk) Q) := by
  rw [k0_part19_eq_skeleton]; unfold k0_part19_skel
  simp only [Prog.lift, Prog.bind_op, Prog.bind_ret, Prog.pure_eq_ret, Prog.bind_assoc]
  iintro ⟨Hs22, HO, Hs32⟩ Hk
  iapply (wp_load_slot (M := Memref.whole cc0_scratch2) (off := ![2, 0, 0]) 2 2 c rfl rfl) $$ Hs22; iintro Hs22
  iapply (wp_load_O c) $$ HO; iintro HO
  iapply (wp_store_O (ck 0 1 c) c (off7_1 c)) $$ HO; iintro HO
  iapply (wp_load_slot (M := Memref.whole cc0_scratch3) (off := ![2, 0, 0]) 3 2 c rfl rfl) $$ Hs32; iintro Hs32
  ispecialize Hk $$ %_
  iapply Hk
  isplitl [Hs22]; · iexact Hs22
  isplitl [HO]; · iexact HO
  iexact Hs32

/-- Part 20 of the body. -/
theorem wp_part20 (c : Dev nD) {f : (cc0_stg2_0 : Ref sig .tc).ty.Contents (Elt F)} (v24 : BitVec 32) (v551 : BitVec 32)
    {α : Type} {Q : α → sProp 𝕄} {kk : PUnit → Prog (TpuEff nD τ sig (Elt F) Λ₀ .tc) α} :
    iprop(recs m ρ K ∗ oPts c f ∗ inFl 2 2 c ∗ slotPts 2 2 c fullShare.right (V m ρ 2 2 c) ∗ owesAny c (dues c []) ∗ inFl 3 2 c ∗ slotPts 3 2 c fullShare.right (V m ρ 3 2 c))
      ⊢ iprop(((oPts c (outW f (ck 1 1 c) (k0_pay27 (V m ρ 3 2 c))) ∗ over 2 2 c ∗ slotPts 2 2 c fullShare (V m ρ 2 2 c) ∗ owesAny c (dues c []) ∗ slotPts 2 3 c fullShare (V m ρ 2 2 (frm 2 c)) ∗ sent 3 2 c ∗ slotPts 3 2 c fullShare (V m ρ 3 2 c))
            -∗ wp frame (wpE (defs₀ (F := F)) 𝒱₀ (c : Thread nD τ) none) Set.univ (kk ⟨⟩) Q)
          -∗ wp frame (wpE (defs₀ (F := F)) 𝒱₀ (c : Thread nD τ) none) Set.univ
            ((k0_part20 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c v24 v551 (k0_pay27 (V m ρ 3 2 c))).bind kk) Q) := by
  rw [k0_part20_eq_skeleton]; unfold k0_part20_skel
  simp only [Prog.lift, Prog.bind_op, Prog.bind_ret, Prog.pure_eq_ret, Prog.bind_assoc, sq_2_2, sq_2_3, snd_2_2, rcv_2_2, sq_3_2, sq_3_3, snd_3_2]
  iintro ⟨#HR, HO, Hx22, Hs22, HHO, Hx32, Hs32⟩ Hk
  iapply (wp_load_O c) $$ HO; iintro HO
  iapply (wp_store_O (ck 1 1 c) c (off8_1 c)) $$ HO; iintro HO
  iapply (wp_wait_snd (q := sndS 2 2) (dm := sqz (bufM 2) 2) m ρ K 2 2 2 3 2 rfl rfl rfl c [] (by decide) rfl (credit_sqz 2 2)) $$ [Hx22 Hs22 HHO]
  · isplitr; · iexact HR
    isplitl [Hx22]; · iexact Hx22
    isplitl [Hs22]; · iexact Hs22
    iexact HHO
  iintro ⟨Hx22, Hs22, HHO⟩
  iapply (wp_wait_rcv (q := rcvS 2 2) (dm := sqz (bufM 2) 3) m ρ K 2 2 2 3 2 rfl rfl rfl c [] (by decide) rfl (credit_sqz 2 3)) $$ [Hx22 HHO]
  · isplitr; · iexact HR
    isplitl [Hx22]; · iexact Hx22
    iexact HHO
  iintro ⟨Hx22, Hs23, HHO⟩
  iapply (wp_wait_snd (q := sndS 3 2) (dm := sqz (bufM 3) 2) m ρ K 3 2 2 3 2 rfl rfl rfl c [] (by decide) rfl (credit_sqz 3 2)) $$ [Hx32 Hs32 HHO]
  · isplitr; · iexact HR
    isplitl [Hx32]; · iexact Hx32
    isplitl [Hs32]; · iexact Hs32
    iexact HHO
  iintro ⟨Hx32, Hs32, HHO⟩
  iapply Hk
  isplitl [HO]; · iexact HO
  isplitl [Hx22]; · iexact Hx22
  isplitl [Hs22]; · iexact Hs22
  isplitl [HHO]; · iexact HHO
  isplitl [Hs23]; · iexact Hs23
  isplitl [Hx32]; · iexact Hx32
  iexact Hs32

/-- Part 21 of the body. -/
theorem wp_part21 (c : Dev nD) (v2 : BitVec 32) (v13 : BitVec 32)
    {α : Type} {Q : α → sProp 𝕄} {kk : (Σ' (v615 : BitVec 32) (v626 : BitVec 32), FVec F S192x1536 .f32) → Prog (TpuEff nD τ sig (Elt F) Λ₀ .tc) α} :
    iprop(recs m ρ K ∗ sent 3 2 c ∗ owesAny c (dues c []) ∗ slotPts 2 3 c fullShare (V m ρ 2 2 (frm 2 c)))
      ⊢ iprop((∀ (v615 : BitVec 32), ∀ (v626 : BitVec 32), (over 3 2 c ∗ slotPts 3 3 c fullShare (V m ρ 3 3 c) ∗ owesAny c (dues c []) ∗ slotPts 2 3 c fullShare (V m ρ 2 3 c))
            -∗ wp frame (wpE (defs₀ (F := F)) 𝒱₀ (c : Thread nD τ) none) Set.univ (kk ⟨v615, v626, k0_pay28 (V m ρ 2 3 c)⟩) Q)
          -∗ wp frame (wpE (defs₀ (F := F)) 𝒱₀ (c : Thread nD τ) none) Set.univ
            ((k0_part21 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v2 v13).bind kk) Q) := by
  rw [k0_part21_eq_skeleton]; unfold k0_part21_skel
  simp only [Prog.lift, Prog.bind_op, Prog.bind_ret, Prog.pure_eq_ret, Prog.bind_assoc, sq_3_2, sq_3_3, rcv_3_2]
  iintro ⟨#HR, Hx32, HHO, Hs23⟩ Hk
  iapply (wp_wait_rcv (q := rcvS 3 2) (dm := sqz (bufM 3) 3) m ρ K 3 2 2 3 2 rfl rfl rfl c [] (by decide) rfl (credit_sqz 3 3)) $$ [Hx32 HHO]
  · isplitr; · iexact HR
    isplitl [Hx32]; · iexact Hx32
    iexact HHO
  iintro ⟨Hx32, Hs33, HHO⟩
  ihave Hs23 := (Entails.of_eq (congrArg (slotPts (F := F) 2 3 c fullShare) (show V m ρ 2 2 (frm 2 c) = V m ρ 2 3 c from rfl))) $$ Hs23
  ihave Hs33 := (Entails.of_eq (congrArg (slotPts (F := F) 3 3 c fullShare) (show V m ρ 3 2 (frm 3 c) = V m ρ 3 3 c from rfl))) $$ Hs33
  iapply (wp_load_slot (M := Memref.whole cc0_scratch2) (off := ![3, 0, 0]) 2 3 c rfl rfl) $$ Hs23; iintro Hs23
  ispecialize Hk $$ %_ %_
  iapply Hk
  isplitl [Hx32]; · iexact Hx32
  isplitl [Hs33]; · iexact Hs33
  isplitl [HHO]; · iexact HHO
  iexact Hs23

end Cert.KernelIdealProof

end
-- ==== Proof.KernelIdealBody.lean ====
/-
# 01_k — the body: its first part, then all its parts in order
-/
module

public import proofs.«01_k».proof.Proof.KernelIdealBodyA
public import proofs.«01_k».proof.Proof.KernelIdealBodyB
public import proofs.«01_k».proof.Proof.KernelIdealBodyC
public import proofs.«01_k».proof.Proof.KernelIdealBodyD

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-- The barrier's share of device `c`: its two duties on the neighbours' cells, its own cell's position and credit. -/
def bx (c : Dev nD) : sProp 𝕄 :=
  iprop(dutyTok ER (barCell (prv c)) 0 true ∗ dutyTok ER (barCell (nxt c)) 0 false ∗ atPos ER (barCell c) 0 ∅ 0 ∗ cred (tallyAt (barCell c) () 2))

/-- The device index is the device's own. -/
theorem wp_devId (c : Dev nD) {α : Type} {Q : α → sProp 𝕄} {k : Dev nD → Prog (TpuEff nD τ sig (Elt F) Λ₀ .tc) α} :
    wp frame (wpE (defs₀ (F := F)) 𝒱₀ (c : Thread nD τ) none) Set.univ (k c) Q ⊢ wp frame (wpE (defs₀ (F := F)) 𝒱₀ (c : Thread nD τ) none) Set.univ (.op .deviceId k) Q :=
  Entails.of_eq (wp_deviceId 𝒱₀ (c : Thread nD τ) none Set.univ).symm

set_option maxHeartbeats 800000 in
/-- Part 1 of the body: the signals to both neighbours hand them this device's slots 1, 2, 3, and the wait brings theirs. -/
theorem wp_part1 (c : Dev nD)
    {α : Type} {Q : α → sProp 𝕄} {kk : (Σ' (d0 : Dev nD) (v2 : BitVec 32) (v13 : BitVec 32), BitVec 32) → Prog (TpuEff nD τ sig (Elt F) Λ₀ .tc) α} :
    iprop(recs m ρ K ∗ bx c ∗ freeSlots (F := F) 0 c ∗ freeSlots (F := F) 1 c ∗ freeSlots (F := F) 2 c ∗ freeSlots (F := F) 3 c ∗ owesAny c (O₀ c))
      ⊢ iprop((∀ (v2 : BitVec 32), ∀ (v13 : BitVec 32), ∀ (v24 : BitVec 32), (semVal (barCell c) 0 ∗ freeSlots (F := F) 0 (dst 0 c) ∗ freeSlots (F := F) 1 (dst 1 c)
              ∗ freeSlots (F := F) 2 (dst 2 c) ∗ freeSlots (F := F) 3 (dst 3 c) ∗ owesAny c (dues c [(0, 0), (1, 0), (0, 1), (1, 1), (0, 2), (1, 2), (2, 0), (3, 0), (2, 1), (3, 1), (2, 2), (3, 2)]))
            -∗ wp frame (wpE (defs₀ (F := F)) 𝒱₀ (c : Thread nD τ) none) Set.univ (kk ⟨c, v2, v13, v24⟩) Q)
          -∗ wp frame (wpE (defs₀ (F := F)) 𝒱₀ (c : Thread nD τ) none) Set.univ ((k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11).bind kk) Q) := by
  rw [k0_part1_eq_skeleton]; unfold k0_part1_skel
  simp only [semSignalWord, semWaitWord, Prog.lift, Prog.bind_op, Prog.bind_ret, Prog.pure_eq_ret, Prog.bind_assoc]
  unfold bx owesAny
  iintro ⟨#HR, ⟨HtP, HtN, Hat, Hc⟩, Hf0, Hf1, Hf2, Hf3, ⟨%W, HO⟩⟩ Hk
  ihave HIp := (recs_bar m ρ K (prv c)) $$ HR
  ihave HIn := (recs_bar m ρ K (nxt c)) $$ HR
  ihave HIc := (recs_bar m ρ K c) $$ HR
  icases HIp with ⟨#HIp, #Hrp⟩
  icases HIn with ⟨#HIn, #Hrn⟩
  icases HIc with ⟨#HIc, #Hrc⟩
  iapply (wp_devId c)
  simp only [dev1_eq c, dev2_eq c]
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP Hf0 Hf2]
  · isplitr; · iexact HIp
    isplitl [HO]; · iexact HO
    isplitl [HtP]; · iexact HtP
    isplitl [Hf0 Hf2]
    · rw [payload_bar, show barPay (F := F) true (prv c) = iprop(freeSlots (F := F) 0 (nxt (prv c)) ∗ freeSlots (F := F) 2 (nxt (prv c))) from rfl, nxt_prv]
      isplitl [Hf0] <;> iassumption
    iexact Hrp
  iintro HO
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (dues c xfers) rfl)
    $$ [HO HtN Hf1 Hf3]
  · isplitr; · iexact HIn
    isplitl [HO]; · iexact HO
    isplitl [HtN]; · iexact HtN
    isplitl [Hf1 Hf3]
    · rw [payload_bar, show barPay (F := F) false (nxt c) = iprop(freeSlots (F := F) 1 (prv (nxt c)) ∗ freeSlots (F := F) 3 (prv (nxt c))) from rfl, prv_nxt]
      isplitl [Hf1] <;> iassumption
    iexact Hrn
  iintro HO
  iapply (Rounds.wp_wait_rest_token 𝒱₀ ER (ringRd m ρ) (c : Thread nD τ) none (κ := K (c, none))
      (wpE_semWait_eq 𝒱₀ (c : Thread nD τ) none Set.univ) (Set.mem_univ _) () (O := dues c xfers) (W := W) (R := 0) (m := 0) (T := ∅)
      (by rw [expect_bar]; decide)) $$ [Hc HO Hat]
  · isplitr; · iexact HIc
    isplitl [Hc]; · iexact Hc
    isplitl [HO]; · iexact HO
    isplitr
    · iapply (mayWait_dues c (.reg barS) xfers 1 rfl (by decide))
      iapply (recs_lev m ρ K); iexact HR
    iexact Hat
  iintro ⟨HO, Hat, -, Hpay⟩
  ihave Hp := (Entails.of_eq (rest_bar m ρ c)) $$ Hpay
  icases Hp with ⟨⟨Hf1, Hf3⟩, Hf0, Hf2⟩
  imod (Rounds.cell_close ER (ringRd m ρ) (Set.mem_univ (K (c, none))) (fun h => h) (R := 0 + 1) (duties_later m ρ (barCell c))) $$ [Hat] with Hz
  · isplitr; · iexact HIc
    iexact Hat
  ispecialize Hk $$ %_ %_ %_
  iapply Hk
  isplitl [Hz]; · iexact Hz
  isplitl [Hf0]; · iexact Hf0
  isplitl [Hf1]; · iexact Hf1
  isplitl [Hf2]; · iexact Hf2
  isplitl [Hf3]; · iexact Hf3
  iexists _; iexact HO

/-- The result after the body's eight stores, from contents `f`. -/
def outF (c : Dev nD) (f : (cc0_stg2_0 : Ref sig .tc).ty.Contents (Elt F)) : (cc0_stg2_0 : Ref sig .tc).ty.Contents (Elt F) :=
  (outW (outW (outW (outW (outW (outW (outW (outW f (ck 0 3 c) (k0_pay22 (acc m ρ 0 2 c))) (ck 1 3 c) (k0_pay23 (acc m ρ 1 2 c))) (ck 0 0 c) (k0_pay24 (V m ρ 2 1 c))) (ck 1 0 c) (k0_pay25 (V m ρ 3 1 c))) (ck 0 1 c) (k0_pay26 (V m ρ 2 2 c))) (ck 1 1 c) (k0_pay27 (V m ρ 3 2 c))) (ck 0 2 c) (k0_pay1 (k0_pay28 (V m ρ 2 3 c)))) (ck 1 2 c) (k0_pay2 (V m ρ 3 3 c)))

/-- Everything of the transfers that device `c` starts from, -/
def txs (c : Dev nD) : sProp 𝕄 := iprop(tx 0 0 c ∗ tx 1 0 c ∗ tx 0 1 c ∗ tx 1 1 c ∗ tx 0 2 c ∗ tx 1 2 c ∗ tx 2 0 c ∗ tx 3 0 c ∗ tx 2 1 c ∗ tx 3 1 c ∗ tx 2 2 c ∗ tx 3 2 c)
/-- and what is left of it. -/
def overs (c : Dev nD) : sProp 𝕄 := iprop(over 0 0 c ∗ over 1 0 c ∗ over 0 1 c ∗ over 1 1 c ∗ over 0 2 c ∗ over 1 2 c ∗ over 2 0 c ∗ over 3 0 c ∗ over 2 1 c ∗ over 3 1 c ∗ over 2 2 c ∗ over 3 2 c)
/-- A whole scratch buffer, slot by slot, whatever it holds. -/
def anySlots (b : Fin 4) (c : Dev nD) : sProp 𝕄 := iprop((∃ v, slotPts (F := F) b 0 c fullShare v) ∗ freeSlots (F := F) b c)

set_option maxHeartbeats 4000000 in
set_option maxRecDepth 20000 in
/-- The body: from the operands staged, the four scratch buffers free, the barrier's and the transfers' shares, to the result
    stored, the buffers free again and every cell's counter at zero. -/
theorem wp_body (c : Dev nD) (f : (cc0_stg2_0 : Ref sig .tc).ty.Contents (Elt F)) (Kt : PUnit → sProp 𝕄) :
    iprop((recs m ρ K ∗ bx c ∗ txs c ∗ anySlots (F := F) 0 c ∗ anySlots (F := F) 1 c ∗ anySlots (F := F) 2 c ∗ anySlots (F := F) 3 c
        ∗ aPts m ρ c ∗ bPts m ρ c ∗ oPts c f ∗ owesAny c (O₀ c))
      ∗ ((semVal (barCell c) 0 ∗ overs c ∗ anySlots (F := F) 0 c ∗ anySlots (F := F) 1 c ∗ anySlots (F := F) 2 c ∗ anySlots (F := F) 3 c
        ∗ aPts m ρ c ∗ bPts m ρ c ∗ oPts c (outF m ρ c f) ∗ owesAny c 0) -∗ Kt ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Kt := by
  rw [cc0_body_eq_skeleton]; unfold cc0_body_skel
  unfold txs anySlots
  iintro ⟨⟨#HR, Hb, ⟨Hx00, Hx10, Hx01, Hx11, Hx02, Hx12, Hx20, Hx30, Hx21, Hx31, Hx22, Hx32⟩, ⟨⟨%w0, Hs00⟩, Hf0⟩, ⟨⟨%w1, Hs10⟩, Hf1⟩, ⟨⟨%w2, Hs20⟩, Hf2⟩, ⟨⟨%w3, Hs30⟩, Hf3⟩, HA, HB, HO, HHO⟩, Hk⟩
  iapply (wp_part1 m ρ K c) $$ [Hb Hf0 Hf1 Hf2 Hf3 HHO]
  · isplitr; · iexact HR
    isplitl [Hb]; · iexact Hb
    isplitl [Hf0]; · iexact Hf0
    isplitl [Hf1]; · iexact Hf1
    isplitl [Hf2]; · iexact Hf2
    isplitl [Hf3]; · iexact Hf3
    iexact HHO
  iintro %v2 %v13 %v24 ⟨Hz, Hf0, Hf1, Hf2, Hf3, HHO⟩
  unfold freeSlots
  icases Hf0 with ⟨Hn01, Hn02, Hn03⟩
  icases Hf1 with ⟨Hn11, Hn12, Hn13⟩
  icases Hf2 with ⟨Hn21, Hn22, Hn23⟩
  icases Hf3 with ⟨Hn31, Hn32, Hn33⟩
  dsimp only
  iapply (wp_part2 m ρ K c v2 v24) $$ [HB HA Hs00 Hs10 Hx00 Hn01 HHO]
  · isplitr; · iexact HR
    isplitl [HB]; · iexact HB
    isplitl [HA]; · iexact HA
    isplitl [Hs00]; · iexact Hs00
    isplitl [Hs10]; · iexact Hs10
    isplitl [Hx00]; · iexact Hx00
    isplitl [Hn01]; · iexact Hn01
    iexact HHO
  iintro  ⟨HB, HA, Hs00, Hs10, Hx00, HHO⟩
  dsimp only
  iapply (wp_part3 m ρ K c v2 v13) $$ [Hx10 Hs10 Hn11 HHO]
  · isplitr; · iexact HR
    isplitl [Hx10]; · iexact Hx10
    isplitl [Hs10]; · iexact Hs10
    isplitl [Hn11]; · iexact Hn11
    iexact HHO
  iintro %v94 %v95 ⟨Hx10, Hs10, HHO⟩
  dsimp only
  iapply (wp_part4 m ρ K c v24 v94 v95) $$ [HA Hx00 Hs00 HHO]
  · isplitr; · iexact HR
    isplitl [HA]; · iexact HA
    isplitl [Hx00]; · iexact Hx00
    isplitl [Hs00]; · iexact Hs00
    iexact HHO
  iintro  ⟨HA, Hx00, Hs00, HHO, Hs01⟩
  dsimp only
  iapply (wp_part5 m ρ K c v13) $$ [Hx10 Hs10 HHO Hs01]
  · isplitr; · iexact HR
    isplitl [Hx10]; · iexact Hx10
    isplitl [Hs10]; · iexact Hs10
    isplitl [HHO]; · iexact HHO
    iexact Hs01
  iintro  ⟨Hx10, Hs10, HHO, Hs11, Hs01⟩
  dsimp only
  iapply (wp_part6 m ρ K c v2 v13 v24) $$ [Hx01 Hs01 Hn02 HHO Hx11 Hs11 Hn12]
  · isplitr; · iexact HR
    isplitl [Hx01]; · iexact Hx01
    isplitl [Hs01]; · iexact Hs01
    isplitl [Hn02]; · iexact Hn02
    isplitl [HHO]; · iexact HHO
    isplitl [Hx11]; · iexact Hx11
    isplitl [Hs11]; · iexact Hs11
    iexact Hn12
  iintro %v181 %v182 ⟨Hx01, Hs01, HHO, Hx11, Hs11⟩
  dsimp only
  iapply (wp_part7 m ρ K c v24 v181 v182) $$ [HA Hx01 Hs01 HHO]
  · isplitr; · iexact HR
    isplitl [HA]; · iexact HA
    isplitl [Hx01]; · iexact Hx01
    isplitl [Hs01]; · iexact Hs01
    iexact HHO
  iintro  ⟨HA, Hx01, Hs01, HHO⟩
  dsimp only
  iapply (wp_part8 m ρ K c v13) $$ [Hx01 HHO Hx11 Hs11]
  · isplitr; · iexact HR
    isplitl [Hx01]; · iexact Hx01
    isplitl [HHO]; · iexact HHO
    isplitl [Hx11]; · iexact Hx11
    iexact Hs11
  iintro  ⟨Hx01, Hs02, HHO, Hx11, Hs11, Hs12⟩
  dsimp only
  iapply (wp_part9 m ρ K c v2 v13 v24) $$ [Hs02 Hs12 Hx02 Hn03 HHO Hx12 Hn13]
  · isplitr; · iexact HR
    isplitl [Hs02]; · iexact Hs02
    isplitl [Hs12]; · iexact Hs12
    isplitl [Hx02]; · iexact Hx02
    isplitl [Hn03]; · iexact Hn03
    isplitl [HHO]; · iexact HHO
    isplitl [Hx12]; · iexact Hx12
    iexact Hn13
  iintro %v269 ⟨Hs02, Hs12, Hx02, HHO, Hx12⟩
  dsimp only
  iapply (wp_part10 m ρ c v2 v269) $$ HA
  iintro %v280 %v292 HA
  dsimp only
  iapply (wp_part11 m ρ K c v13 v24) $$ [Hx02 Hs02 HHO Hx12 Hs12]
  · isplitr; · iexact HR
    isplitl [Hx02]; · iexact Hx02
    isplitl [Hs02]; · iexact Hs02
    isplitl [HHO]; · iexact HHO
    isplitl [Hx12]; · iexact Hx12
    iexact Hs12
  iintro  ⟨Hx02, Hs02, HHO, Hs03, Hx12, Hs12⟩
  dsimp only
  iapply (wp_part12 m ρ K c v24) $$ [Hx12 HHO Hs03 Hs20 Hs30 Hx20 Hn21]
  · isplitr; · iexact HR
    isplitl [Hx12]; · iexact Hx12
    isplitl [HHO]; · iexact HHO
    isplitl [Hs03]; · iexact Hs03
    isplitl [Hs20]; · iexact Hs20
    isplitl [Hs30]; · iexact Hs30
    isplitl [Hx20]; · iexact Hx20
    iexact Hn21
  iintro  ⟨Hx12, Hs13, HHO, Hs03, Hs20, Hs30, Hx20⟩
  dsimp only
  iapply (wp_part13 m ρ K c v13 v280 v292) $$ [Hx30 Hs30 Hn31 HHO HO]
  · isplitr; · iexact HR
    isplitl [Hx30]; · iexact Hx30
    isplitl [Hs30]; · iexact Hs30
    isplitl [Hn31]; · iexact Hn31
    isplitl [HHO]; · iexact HHO
    iexact HO
  iintro  ⟨Hx30, Hs30, HHO, HO⟩
  dsimp only
  iapply (wp_part14 m ρ K c v13 v24) $$ [Hx20 Hs20 HHO Hx30 Hs30]
  · isplitr; · iexact HR
    isplitl [Hx20]; · iexact Hx20
    isplitl [Hs20]; · iexact Hs20
    isplitl [HHO]; · iexact HHO
    isplitl [Hx30]; · iexact Hx30
    iexact Hs30
  iintro  ⟨Hx20, Hs20, HHO, Hs21, Hx30, Hs30, Hs31⟩
  dsimp only
  iapply (wp_part15 m ρ K c v2 v13 v24) $$ [Hs21 Hs31 Hx21 Hn22 HHO Hx31 Hn32]
  · isplitr; · iexact HR
    isplitl [Hs21]; · iexact Hs21
    isplitl [Hs31]; · iexact Hs31
    isplitl [Hx21]; · iexact Hx21
    isplitl [Hn22]; · iexact Hn22
    isplitl [HHO]; · iexact HHO
    isplitl [Hx31]; · iexact Hx31
    iexact Hn32
  iintro %v445 %v446 ⟨Hs21, Hs31, Hx21, HHO, Hx31⟩
  dsimp only
  iapply (wp_part16 m ρ c v445 v446) $$ [Hs21 HO Hs31]
  · isplitl [Hs21]; · iexact Hs21
    isplitl [HO]; · iexact HO
    iexact Hs31
  iintro  ⟨Hs21, HO, Hs31⟩
  dsimp only
  iapply (wp_part17 m ρ K c v13 v24) $$ [Hx21 Hs21 HHO Hx31 Hs31]
  · isplitr; · iexact HR
    isplitl [Hx21]; · iexact Hx21
    isplitl [Hs21]; · iexact Hs21
    isplitl [HHO]; · iexact HHO
    isplitl [Hx31]; · iexact Hx31
    iexact Hs31
  iintro  ⟨Hx21, Hs21, HHO, Hs22, Hx31, Hs31⟩
  dsimp only
  iapply (wp_part18 m ρ K c v2 v13 v24) $$ [Hx31 HHO Hs22 Hx22 Hn23 Hx32 Hn33]
  · isplitr; · iexact HR
    isplitl [Hx31]; · iexact Hx31
    isplitl [HHO]; · iexact HHO
    isplitl [Hs22]; · iexact Hs22
    isplitl [Hx22]; · iexact Hx22
    isplitl [Hn23]; · iexact Hn23
    isplitl [Hx32]; · iexact Hx32
    iexact Hn33
  iintro %v532 %v533 %v534 ⟨Hx31, Hs32, HHO, Hs22, Hx22, Hx32⟩
  dsimp only
  iapply (wp_part19 m ρ c v2 v532 v533 v534) $$ [Hs22 HO Hs32]
  · isplitl [Hs22]; · iexact Hs22
    isplitl [HO]; · iexact HO
    iexact Hs32
  iintro %v551 ⟨Hs22, HO, Hs32⟩
  dsimp only
  iapply (wp_part20 m ρ K c v24 v551) $$ [HO Hx22 Hs22 HHO Hx32 Hs32]
  · isplitr; · iexact HR
    isplitl [HO]; · iexact HO
    isplitl [Hx22]; · iexact Hx22
    isplitl [Hs22]; · iexact Hs22
    isplitl [HHO]; · iexact HHO
    isplitl [Hx32]; · iexact Hx32
    iexact Hs32
  iintro  ⟨HO, Hx22, Hs22, HHO, Hs23, Hx32, Hs32⟩
  dsimp only
  iapply (wp_part21 m ρ K c v2 v13) $$ [Hx32 HHO Hs23]
  · isplitr; · iexact HR
    isplitl [Hx32]; · iexact Hx32
    isplitl [HHO]; · iexact HHO
    iexact Hs23
  iintro %v615 %v626 ⟨Hx32, Hs33, HHO, Hs23⟩
  dsimp only
  simp only [Prog.lift, Prog.bind_op, Prog.bind_ret, Prog.pure_eq_ret]
  iapply (wp_load_O c) $$ HO; iintro HO
  iapply (wp_store_O (ck 0 2 c) c (off7_2 c)) $$ HO; iintro HO
  iapply (wp_load_slot (M := Memref.whole cc0_scratch3) (off := ![3, 0, 0]) 3 3 c rfl rfl) $$ Hs33; iintro Hs33
  iapply (wp_load_O c) $$ HO; iintro HO
  iapply (wp_store_O (ck 1 2 c) c (off8_2 c)) $$ HO; iintro HO
  rw [wp_ret]; imodintro
  iapply Hk
  isplitl [Hz]; · iexact Hz
  isplitl [Hx00 Hx10 Hx01 Hx11 Hx02 Hx12 Hx20 Hx30 Hx21 Hx31 Hx22 Hx32]
  · unfold overs
    isplitl [Hx00]; · iexact Hx00
    isplitl [Hx10]; · iexact Hx10
    isplitl [Hx01]; · iexact Hx01
    isplitl [Hx11]; · iexact Hx11
    isplitl [Hx02]; · iexact Hx02
    isplitl [Hx12]; · iexact Hx12
    isplitl [Hx20]; · iexact Hx20
    isplitl [Hx30]; · iexact Hx30
    isplitl [Hx21]; · iexact Hx21
    isplitl [Hx31]; · iexact Hx31
    isplitl [Hx22]; · iexact Hx22
    iexact Hx32
  isplitl [Hs00 Hs01 Hs02 Hs03]
  · isplitl [Hs00]; · iexists _; iexact Hs00
    isplitl [Hs01]; · iexists _; iexact Hs01
    isplitl [Hs02]; · iexists _; iexact Hs02
    iexists _; iexact Hs03
  isplitl [Hs10 Hs11 Hs12 Hs13]
  · isplitl [Hs10]; · iexists _; iexact Hs10
    isplitl [Hs11]; · iexists _; iexact Hs11
    isplitl [Hs12]; · iexists _; iexact Hs12
    iexists _; iexact Hs13
  isplitl [Hs20 Hs21 Hs22 Hs23]
  · isplitl [Hs20]; · iexists _; iexact Hs20
    isplitl [Hs21]; · iexists _; iexact Hs21
    isplitl [Hs22]; · iexists _; iexact Hs22
    iexists _; iexact Hs23
  isplitl [Hs30 Hs31 Hs32 Hs33]
  · isplitl [Hs30]; · iexists _; iexact Hs30
    isplitl [Hs31]; · iexists _; iexact Hs31
    isplitl [Hs32]; · iexists _; iexact Hs32
    iexists _; iexact Hs33
  isplitl [HA]; · iexact HA
  isplitl [HB]; · iexact HB
  isplitl [HO]; · unfold outF; iexact HO
  iexact HHO

end Cert.KernelIdealProof

end
-- ==== Proof.KernelIdealOut.lean ====
/-
# 01_k — the result element by element, and a scratch buffer as its four slots
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Xc → ℕ)

/-! ## The result, element by element -/

/-- The row block an element of the result lies in, -/
def rowOf (y : S1536x1536.Idx) : Fin 8 := ⟨(y (0 : Fin 2)).val / 192, by
  have h : (y (0 : Fin 2)).val < 1536 := (y (0 : Fin 2)).isLt
  omega⟩
/-- and its place in that block. -/
def locOf (y : S1536x1536.Idx) : S192x1536.Idx := fun a => ⟨(![(y (0 : Fin 2)).val % 192, (y (1 : Fin 2)).val] : Fin 2 → ℕ) a, by
  fin_cases a
  · exact Nat.mod_lt _ (by decide)
  · exact (y (1 : Fin 2)).isLt⟩

omit [FloatOps F] in
theorem emb_locOf (y : S1536x1536.Idx) (k : Fin 8) (h : rowOf y = k) :
    ((oM : Memref sig .tc .vmem S1536x1536 .f32).access (rO k)).emb (locOf y) = y := by
  subst h
  funext a
  apply Fin.ext
  fin_cases a
  · show 192 * ((y (0 : Fin 2)).val / 192) + 1 * ((y (0 : Fin 2)).val % 192) = (y (0 : Fin 2)).val
    rw [Nat.one_mul]; exact Nat.div_add_mod _ _
  · show 0 + 1 * (y (1 : Fin 2)).val = (y (1 : Fin 2)).val
    rw [Nat.one_mul, Nat.zero_add]

/-- An element of the replaced row block reads the new block, -/
theorem outW_hit (f : (cc0_stg2_0 : Ref sig .tc).ty.Contents (Elt F)) (k : Fin 8) (w : FVec F S192x1536 .f32)
    (y : S1536x1536.Idx) (h : rowOf y = k) : outW f k w y = w (locOf y) := by
  have he := View.write_emb_of_mem (v := (oM : Memref sig .tc .vmem S1536x1536 .f32).access (rO k)) (Val := Elt F) f w
    (Finset.mem_univ (locOf y))
  rw [emb_locOf y k h] at he
  exact he
/-- any other what was there. -/
theorem outW_miss (f : (cc0_stg2_0 : Ref sig .tc).ty.Contents (Elt F)) (k : Fin 8) (w : FVec F S192x1536 .f32)
    (y : S1536x1536.Idx) (h : rowOf y ≠ k) : outW f k w y = f y := by
  refine View.write_of_not_mem (v := (oM : Memref sig .tc .vmem S1536x1536 .f32).access (rO k)) f w Finset.univ fun hm => h ?_
  rw [View.setOn_univ, View.set, Finset.mem_map] at hm
  obtain ⟨x, -, hx⟩ := hm
  subst hx
  apply Fin.ext
  show (192 * k.val + 1 * (x (0 : Fin 2)).val) / 192 = k.val
  have hx : (x (0 : Fin 2)).val < 192 := (x (0 : Fin 2)).isLt
  omega

/-- The same as one equation. -/
theorem outW_at (f : (cc0_stg2_0 : Ref sig .tc).ty.Contents (Elt F)) (k : Fin 8) (w : FVec F S192x1536 .f32)
    (y : S1536x1536.Idx) : outW f k w y = if rowOf y = k then w (locOf y) else f y := by
  by_cases h : rowOf y = k
  · rw [if_pos h, outW_hit f k w y h]
  · rw [if_neg h, outW_miss f k w y h]

/-- The eight row blocks a device stores are all there are. -/
theorem ck_cover (c : Dev nD) (q : Fin 8) : q = ck 0 3 c ∨ q = ck 1 3 c ∨ q = ck 0 0 c ∨ q = ck 1 0 c ∨ q = ck 0 1 c ∨ q = ck 1 1 c
    ∨ q = ck 0 2 c ∨ q = ck 1 2 c := by
  revert c q; decide

/-- So the result does not depend on what was there. -/
theorem outF_indep (c : Dev nD) (f f' : (cc0_stg2_0 : Ref sig .tc).ty.Contents (Elt F)) : outF m ρ c f = outF m ρ c f' := by
  funext y
  unfold outF
  simp only [outW_at]
  rcases ck_cover c (rowOf y) with h | h | h | h | h | h | h | h <;> simp only [h, if_true] <;> (repeat' split) <;> rfl

/-! ## A scratch buffer and its four slots -/

omit [FloatOps F] in
theorem rK_disjoint (k k' : Fin 4) (h : k ≠ k') : Disjoint (rK k).set (rK k').set := by
  refine Rect.unit_disjoint (0 : Fin 3) ?_
  show k.val + 1 ≤ k'.val ∨ k'.val + 1 ≤ k.val
  have : k.val ≠ k'.val := fun e => h (Fin.ext e)
  omega
omit [FloatOps F] in
theorem rK_cover : (Finset.univ : Finset (Fin 4)).biUnion (fun k => (rK k).set) = Finset.univ := by
  refine Finset.eq_univ_iff_forall.mpr fun y => Finset.mem_biUnion.mpr ⟨⟨(y (0 : Fin 3)).val, (y (0 : Fin 3)).isLt⟩, Finset.mem_univ _, ?_⟩
  refine Rect.mem_set_unit.mpr fun a => ?_
  have h := (y a).isLt
  fin_cases a
  · exact ⟨Nat.le_refl _, Nat.lt_succ_self _⟩
  · exact ⟨Nat.zero_le _, by show (y (1 : Fin 3)).val < 0 + 192; rw [Nat.zero_add]; exact h⟩
  · exact ⟨Nat.zero_le _, by show (y (2 : Fin 3)).val < 0 + 1536; rw [Nat.zero_add]; exact h⟩

/-- A scratch buffer whole, whatever it holds. -/
def bufPts (b : Ref sig .tc) (c : Dev nD) : sProp 𝕄 :=
  iprop(∃ f : Buf (Elt F) ((c : Thread nD τ).loc b), ((c : Thread nD τ).loc b) ↦{fullShare} f)

omit [FloatOps F] in
theorem bigSep_slots (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Buffer `b` as a memref owned at some contents is its four slots, -/
theorem split_slots (b : Fin 4) (c : Dev nD) (X : S4x192x1536.Idx → Elt F .bf16) :
    owns (c : Thread nD τ) (bufM b) fullShare X ⊢ anySlots (F := F) b c := by
  refine (owns_rects (c : Thread nD τ) (bufM b) fullShare rK (fun _ _ => rfl) rK_disjoint rK_cover X).trans ?_
  rw [bigSep_slots]
  unfold anySlots freeSlots slotPts
  iintro ⟨H0, H1, H2, H3⟩
  isplitl [H0]; · iexists _; iexact H0
  isplitl [H1]; · iexists _; iexact H1
  isplitl [H2]; · iexists _; iexact H2
  iexists _; iexact H3

/-- The contents four slots make. -/
def glue (v : Fin 4 → SlotV F) : S4x192x1536.Idx → Elt F .bf16 := fun y =>
  v ⟨(y (0 : Fin 3)).val, (y (0 : Fin 3)).isLt⟩ fun a => ⟨(![0, (y (1 : Fin 3)).val, (y (2 : Fin 3)).val] : Fin 3 → ℕ) a, by
    fin_cases a
    · exact Nat.one_pos
    · exact (y (1 : Fin 3)).isLt
    · exact (y (2 : Fin 3)).isLt⟩

theorem glue_emb (v : Fin 4 → SlotV F) (k : Fin 4) : (fun j => glue v ((rK k).emb j)) = v k := by
  funext j
  have h0 : (j (0 : Fin 3)).val = 0 := Nat.lt_one_iff.mp (j (0 : Fin 3)).isLt
  have hk : (⟨((rK k).emb j (0 : Fin 3)).val, ((rK k).emb j (0 : Fin 3)).isLt⟩ : Fin 4) = k := by
    apply Fin.ext
    show k.val + 1 * (j (0 : Fin 3)).val = k.val
    rw [h0, Nat.mul_zero, Nat.add_zero]
  show v (⟨((rK k).emb j (0 : Fin 3)).val, ((rK k).emb j (0 : Fin 3)).isLt⟩ : Fin 4) _ = v k j
  rw [hk]
  refine congrArg (v k) (funext fun a => Fin.ext ?_)
  fin_cases a
  · exact h0.symm
  · show 0 + 1 * (j (1 : Fin 3)).val = (j (1 : Fin 3)).val
    rw [Nat.one_mul, Nat.zero_add]
  · show 0 + 1 * (j (2 : Fin 3)).val = (j (2 : Fin 3)).val
    rw [Nat.one_mul, Nat.zero_add]

/-- and back. -/
theorem join_slots (b : Fin 4) (c : Dev nD) :
    anySlots (F := F) b c ⊢ iprop(∃ X, owns (c : Thread nD τ) (bufM b) fullShare X) := by
  unfold anySlots freeSlots slotPts
  iintro ⟨⟨%v0, H0⟩, ⟨%v1, H1⟩, ⟨%v2, H2⟩, ⟨%v3, H3⟩⟩
  iexists (glue ![v0, v1, v2, v3])
  iapply (owns_of_rects (c : Thread nD τ) (bufM b) fullShare rK (fun _ _ => rfl) rK_disjoint rK_cover (glue ![v0, v1, v2, v3]))
  rw [bigSep_slots, glue_emb, glue_emb, glue_emb, glue_emb]
  isplitl [H0]; · iexact H0
  isplitl [H1]; · iexact H1
  isplitl [H2]; · iexact H2
  iexact H3

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The scratch buffers' names. -/
def scr : Fin 4 → Ref sig .tc | 0 => cc0_scratch0 | 1 => cc0_scratch1 | 2 => cc0_scratch2 | 3 => cc0_scratch3

theorem buf_open_of (b : Fin 4) (c : Dev nD) (r : Ref sig .tc)
    (h : ∀ X : r.ty.Contents (Elt F), owns (c : Thread nD τ) (Memref.whole r) fullShare X ⊢ anySlots (F := F) b c) :
    bufPts (F := F) r c ⊢ anySlots (F := F) b c := by
  unfold bufPts
  iintro ⟨%f, H⟩
  iapply (h f)
  iapply (Entails.of_eq (owns_whole_eq' c r f).symm)
  iexists f; isplitr
  · ipureintro; rfl
  · iexact H
theorem buf_open (b : Fin 4) (c : Dev nD) : bufPts (F := F) (scr b) c ⊢ anySlots (F := F) b c := match b with
  | 0 => buf_open_of 0 c cc0_scratch0 fun X => split_slots 0 c X
  | 1 => buf_open_of 1 c cc0_scratch1 fun X => split_slots 1 c X
  | 2 => buf_open_of 2 c cc0_scratch2 fun X => split_slots 2 c X
  | 3 => buf_open_of 3 c cc0_scratch3 fun X => split_slots 3 c X

omit [FloatOps F] in
theorem owns_bufPts (c : Dev nD) (r : Ref sig .tc) :
    iprop(∃ X : r.ty.Contents (Elt F), owns (c : Thread nD τ) (Memref.whole r) fullShare X) ⊢ bufPts (F := F) r c := by
  unfold bufPts
  iintro ⟨%X, H⟩
  ihave H := (Entails.of_eq (owns_whole_eq' c r X)) $$ H
  icases H with ⟨%f, -, H⟩
  iexists f; iexact H
theorem buf_close (b : Fin 4) (c : Dev nD) : anySlots (F := F) b c ⊢ bufPts (F := F) (scr b) c := match b with
  | 0 => (join_slots 0 c).trans (owns_bufPts c cc0_scratch0)
  | 1 => (join_slots 1 c).trans (owns_bufPts c cc0_scratch1)
  | 2 => (join_slots 2 c).trans (owns_bufPts c cc0_scratch2)
  | 3 => (join_slots 3 c).trans (owns_bufPts c cc0_scratch3)

end Cert.KernelIdealProof

end
-- ==== Proof.KernelIdealOblig.lean ====
/-
# 01_k — the body's obligation: what a device starts from and what it leaves
-/
module

public import proofs.«01_k».proof.Proof.KernelIdealOut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The invariants and the round-0 marks of every cell of every device. -/
def marks (K : Dev nD × Option Xc → ℕ) : sProp 𝕄 :=
  bigSep Finset.univ fun cx => iprop(cellInv ER (ringRd m ρ) (K cx) (kcell cx) ∗ reached ER (kcell cx) 0)

instance marks_persistent (K : Dev nD × Option Xc → ℕ) : BI.Persistent (marks (F := F) m ρ K) := by unfold marks; infer_instance

/-- The two barrier duties a device pays, its own barrier position, and each transfer's duties and positions. -/
def share (c : Dev nD) : sProp 𝕄 :=
  iprop(dutyTok ER (barCell (prv c)) 0 true ∗ dutyTok ER (barCell (nxt c)) 0 false
    ∗ atPos ER (barCell c) 0 ∅ 0
    ∗ bigSep Finset.univ fun x : Fin 4 × Fin 3 => iprop(dutyTok ER (sndCell x.1 x.2 c) 0 false ∗ dutyTok ER (rcvCell x.1 x.2 (dst x.1 c)) 0 false
        ∗ atPos ER (sndCell x.1 x.2 c) 0 ∅ 0 ∗ atPos ER (rcvCell x.1 x.2 c) 0 ∅ 0))

/-- The credits a device waits with: two units of its barrier, and each transfer's to it. -/
def dueTo (c : Dev nD) : sProp 𝕄 :=
  iprop(cred (tallyAt (barCell c) () 2) ∗ bigSep Finset.univ fun x : Fin 4 × Fin 3 => cred (tallyAt (rcvCell x.1 x.2 c) () N))

/-- What device `c`'s body starts from. -/
def start (c : Dev nD) : sProp 𝕄 := iprop((∃ K, marks (F := F) m ρ K ∗ share c) ∗ dueTo c ∗ levAts L lv)

theorem tx_of (c : Dev nD) (x : Fin 4 × Fin 3) :
    iprop((dutyTok ER (sndCell x.1 x.2 c) 0 false ∗ dutyTok ER (rcvCell x.1 x.2 (dst x.1 c)) 0 false
        ∗ atPos ER (sndCell x.1 x.2 c) 0 ∅ 0 ∗ atPos ER (rcvCell x.1 x.2 c) 0 ∅ 0) ∗ cred (tallyAt (rcvCell x.1 x.2 c) () N))
      ⊢ (tx x.1 x.2 c : sProp 𝕄) := by
  unfold tx
  iintro ⟨⟨H1, H2, H3, H4⟩, H5⟩
  isplitl [H1]; · iexact H1
  isplitl [H2]; · iexact H2
  isplitl [H3]; · iexact H3
  isplitl [H4] <;> iassumption

/-- The transfers' shares, one by one in program order. -/
theorem txs_of (c : Dev nD) : (bigSep Finset.univ fun x : Fin 4 × Fin 3 => (tx x.1 x.2 c : sProp 𝕄)) = txs c :=
  bigSep_univ_eq_bigSepL xfers (by decide) (by decide) (fun x : Fin 4 × Fin 3 => (tx x.1 x.2 c : sProp 𝕄))

theorem start_open (c : Dev nD) : start m ρ c ⊢ iprop(∃ K, recs (F := F) m ρ K ∗ bx c ∗ txs c) := by
  unfold start share dueTo bx
  iintro ⟨⟨%K, Hm, Ht, Hf, Ha, Hx⟩, ⟨Hc, Hr⟩, Hl⟩
  iexists K
  isplitl [Hm Hl]
  · unfold recs; isplitl [Hl]; · iexact Hl
    unfold marks; iexact Hm
  isplitl [Ht Hf Ha Hc]
  · isplitl [Ht]; · iexact Ht
    isplitl [Hf]; · iexact Hf
    isplitl [Ha] <;> iassumption
  iapply (Entails.of_eq (txs_of (F := F) c))
  iapply ((Entails.of_eq (bigSep_sep' Finset.univ _ _).symm).trans (bigSep_mono fun x _ => tx_of (F := F) c x))
  isplitl [Hx] <;> iassumption

def Φ₀ (c : Dev nD) : sProp 𝕄 :=
  iprop(start m ρ c ∗ bufPts (F := F) cc0_scratch0 c ∗ bufPts (F := F) cc0_scratch1 c ∗ bufPts (F := F) cc0_scratch2 c ∗ bufPts (F := F) cc0_scratch3 c)
def Φ₁ (c : Dev nD) : sProp 𝕄 :=
  iprop((semVal (barCell c) 0 ∗ overs c) ∗ bufPts (F := F) cc0_scratch0 c ∗ bufPts (F := F) cc0_scratch1 c ∗ bufPts (F := F) cc0_scratch2 c ∗ bufPts (F := F) cc0_scratch3 c)

/-- The result on device `c`: its eight row blocks, whatever the buffer held before. -/
def outAt (c : Dev nD) : (cc0_stg2_0 : Ref sig .tc).ty.Contents (Elt F) :=
  outF m ρ c ((win0_2.blk (0 : Fin 1)).view.read (Elt F) ((s₀ m ρ).mem ((c : Thread nD τ).loc main_v1)))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgA m ρ c
    | ⟨1, _⟩ => stgB m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-! ## The body's obligation -/

/-- Device `c`'s staging buffer `b`, reading `X`. -/
abbrev stgP (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_W (Φ : Fin cfg0.W → sProp 𝕄) : bigSep Finset.univ Φ = iprop(Φ (0 : Fin 3) ∗ Φ (1 : Fin 3) ∗ Φ (2 : Fin 3)) := bigSep_W0 Φ

def bodyPre (c : Dev nD) : sProp 𝕄 :=
  iprop(Φ₀ m ρ c ∗ (dats m ρ 0 c).owesAt () t0_0.castSucc
    ∗ (∃ d, stgP c cc0_stg0_0 ((dats m ρ 0 c).before (0 : Fin 3) t0_0 d))
    ∗ (∃ d, stgP c cc0_stg1_0 ((dats m ρ 0 c).before (1 : Fin 3) t0_0 d))
    ∗ (∃ d, stgP c cc0_stg2_0 ((dats m ρ 0 c).before (2 : Fin 3) t0_0 d)))
def bodyPost (c : Dev nD) : sProp 𝕄 :=
  iprop(Φ₁ (F := F) c ∗ (dats m ρ 0 c).owesAt () t0_0.succ ∗ stgP c cc0_stg0_0 (stgA m ρ c) ∗ stgP c cc0_stg1_0 (stgB m ρ c) ∗ stgP c cc0_stg2_0 (outAt m ρ c))

theorem body_open (c : Dev nD) :
    bodyPre m ρ c ⊢ iprop(∃ K, ∃ f, recs (F := F) m ρ K ∗ bx c ∗ txs c ∗ anySlots (F := F) 0 c ∗ anySlots (F := F) 1 c ∗ anySlots (F := F) 2 c ∗ anySlots (F := F) 3 c
        ∗ aPts m ρ c ∗ bPts m ρ c ∗ oPts c f ∗ owesAny c (O₀ c)) := by
  unfold bodyPre Φ₀
  iintro ⟨⟨Hs, Hr0, Hr1, Hr2, Hr3⟩, Ho, ⟨%d0, %g0, %hg0, HA⟩, ⟨%d1, %g1, %hg1, HB⟩, ⟨%d2, %g2, %hg2, HO⟩⟩
  have hA : g0 = stgA m ρ c := by rw [hg0]; unfold Dat.before; rw [if_pos (fetch0_0 t0_0)]; rfl
  have hB : g1 = stgB m ρ c := by rw [hg1]; unfold Dat.before; rw [if_pos (fetch0_1 t0_0)]; rfl
  subst hA; subst hB
  unfold Dat.owesAt Pipeline.owesWithin
  icases Ho with ⟨%W, %hW, HW⟩
  ihave Hs := (start_open m ρ c) $$ Hs
  icases Hs with ⟨%K, HK, Hbx, Htx⟩
  iexists K; iexists g2
  isplitl [HK]; · iexact HK
  isplitl [Hbx]; · iexact Hbx
  isplitl [Htx]; · iexact Htx
  isplitl [Hr0]; · iapply (buf_open (F := F) 0 c); iexact Hr0
  isplitl [Hr1]; · iapply (buf_open (F := F) 1 c); iexact Hr1
  isplitl [Hr2]; · iapply (buf_open (F := F) 2 c); iexact Hr2
  isplitl [Hr3]; · iapply (buf_open (F := F) 3 c); iexact Hr3
  isplitl [HA]; · unfold aPts; iexact HA
  isplitl [HB]; · unfold bPts; iexact HB
  isplitl [HO]; · unfold oPts; iexact HO
  unfold owesAny
  iexists W; iexact HW

theorem body_close (c : Dev nD) (f : (cc0_stg2_0 : Ref sig .tc).ty.Contents (Elt F)) :
    iprop(semVal (barCell c) 0 ∗ overs c ∗ anySlots (F := F) 0 c ∗ anySlots (F := F) 1 c ∗ anySlots (F := F) 2 c ∗ anySlots (F := F) 3 c
        ∗ aPts m ρ c ∗ bPts m ρ c ∗ oPts c (outF m ρ c f) ∗ owesAny c 0) ⊢ bodyPost m ρ c := by
  unfold bodyPost Φ₁ aPts bPts oPts
  iintro ⟨Hb, Hov, H0, H1, H2, H3, HA, HB, HO, HW⟩
  isplitl [Hb Hov H0 H1 H2 H3]
  · isplitl [Hb Hov]
    · isplitl [Hb] <;> iassumption
    isplitl [H0]; · iapply (buf_close (F := F) 0 c); iexact H0
    isplitl [H1]; · iapply (buf_close (F := F) 1 c); iexact H1
    isplitl [H2]; · iapply (buf_close (F := F) 2 c); iexact H2
    iapply (buf_close (F := F) 3 c); iexact H3
  isplitl [HW]
  · unfold owesAny Dat.owesAt Pipeline.owesWithin
    icases HW with ⟨%W, HW⟩
    iexists W
    isplitr; · ipureintro; exact fun _ _ => Or.inl trivial
    iexact HW
  isplitl [HA]
  · iexists _; isplitr; · (ipureintro; rfl)
    iexact HA
  isplitl [HB]
  · iexists _; isplitr; · (ipureintro; rfl)
    iexact HB
  iexists _; isplitr
  · ipureintro; exact outF_indep m ρ c f _
  iexact HO

end Cert.KernelIdealProof

end
-- ==== Proof.KernelIdealRun.lean ====
/-
# 01_k — the launch: the cells set up, the run
-/
module

public import proofs.«01_k».proof.Proof.KernelIdealOblig
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body as the pipeline calls it. -/
theorem body_is : (defs₀ (F := F)) .tc cfg0.body (cfg0.bodyArgs t0_0 (cfg0.slots t0_0)) = (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) := rfl

/-- The obligation's two ends, the staging buffers read through their memrefs. -/
def opre (c : Dev nD) : sProp 𝕄 := iprop(Φ₀ m ρ c ∗ (dats m ρ 0 c).owesAt () t0_0.castSucc
    ∗ (∃ d, owns (c : Thread nD τ) (Memref.whole cc0_stg0_0) fullShare ((dats m ρ 0 c).before (0 : Fin 3) t0_0 d))
    ∗ (∃ d, owns (c : Thread nD τ) (Memref.whole cc0_stg1_0) fullShare ((dats m ρ 0 c).before (1 : Fin 3) t0_0 d))
    ∗ (∃ d, owns (c : Thread nD τ) (Memref.whole cc0_stg2_0) fullShare ((dats m ρ 0 c).before (2 : Fin 3) t0_0 d)))
def opost (c : Dev nD) : sProp 𝕄 := iprop(Φ₁ (F := F) c ∗ (dats m ρ 0 c).owesAt () t0_0.succ
    ∗ owns (c : Thread nD τ) (Memref.whole cc0_stg0_0) fullShare (stgA m ρ c)
    ∗ owns (c : Thread nD τ) (Memref.whole cc0_stg1_0) fullShare (stgB m ρ c)
    ∗ owns (c : Thread nD τ) (Memref.whole cc0_stg2_0) fullShare (outAt m ρ c))
theorem opre_is (c : Dev nD) : opre m ρ c = bodyPre m ρ c := by
  unfold opre bodyPre
  simp only [owns_whole_eq']
theorem opost_is (c : Dev nD) : opost m ρ c = bodyPost m ρ c := by
  unfold opost bodyPost
  simp only [owns_whole_eq']

theorem obl (c : Dev nD) : opre m ρ c ⊢ wp frame (wpE (defs₀ (F := F)) 𝒱₀ (c : Thread nD τ) none) Set.univ
      ((defs₀ (F := F)) .tc cfg0.body (cfg0.bodyArgs t0_0 (cfg0.slots t0_0))) fun _ => opost m ρ c := by
  rw [body_is, opre_is, opost_is]
  iintro H
  ihave H := (body_open m ρ c) $$ H
  icases H with ⟨%K, %f, H⟩
  iapply (wp_body m ρ K c f fun _ => bodyPost m ρ c)
  isplitl [H]; · iexact H
  iintro H
  iapply (body_close m ρ c f); iexact H

theorem after_a (c : Dev nD) : (dats m ρ 0 c).after (0 : Fin 3) t0_0 = stgA m ρ c := rfl
theorem after_b (c : Dev nD) : (dats m ρ 0 c).after (1 : Fin 3) t0_0 = stgB m ρ c := rfl
theorem after_o (c : Dev nD) : (dats m ρ 0 c).after (2 : Fin 3) t0_0 = outAt m ρ c := by dsimp only [dats]
theorem phi_pre (c : Dev nD) : (dats m ρ 0 c).Φ t0_0.castSucc = Φ₀ m ρ c := rfl
theorem phi_post (c : Dev nD) : (dats m ρ 0 c).Φ t0_0.succ = Φ₁ (F := F) c := rfl
/-- The library's body obligation on core `c`. -/
theorem body_obligation (c : Dev nD) : BodyObligation (dats (F := F) m ρ 0 c) (defs₀ (F := F)) 𝒱₀ () Set.univ := fun t => by
  rw [fin_N0 t]
  rw [bigSep_W, bigSep_W]
  have h := obl m ρ c
  unfold opre opost at h
  rw [phi_pre, phi_post]
  dsimp only
  rw [after_a, after_b, after_o]
  exact h

/-! ## The launch -/

/-- The kernel's own semaphores: the transfers' cells. -/
abbrev osem : Xc → SemLoc sig := fun x => .dma (xS x)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Option Xc → GSem nD τ sig) := by
  rintro ⟨c, k⟩ ⟨c', k'⟩ h
  have h1 : c = c' := by
    have := congrArg (fun g : GSem nD τ sig => g.1.1) h
    cases k <;> cases k' <;> exact this
  subst h1
  cases k with
  | none => cases k' with
    | none => rfl
    | some x => exact absurd (congrArg Prod.snd h) (by intro h'; cases h')
  | some x => cases k' with
    | none => exact absurd (congrArg Prod.snd h) (by intro h'; cases h')
    | some x' => exact congrArg (fun x => (c, some x)) (ownSemFacts.inj (congrArg Prod.snd h))
def ringCells : Finset (GSem nD τ sig) := Finset.univ.map ⟨kcell, kcell_injective⟩

/-- A device's duties as minted: its barrier's `false` and `true`, and `false` of each of its transfers' cells. -/
def tokOf (cj : Dev nD × Option (Option Xc)) : GSem nD τ sig × ℕ × Bool := match cj.2 with
  | none => (barCell cj.1, 0, true)
  | some k => (kcell (cj.1, k), 0, false)
theorem tokOf_injective : Function.Injective tokOf := by
  rintro ⟨c, j⟩ ⟨c', j'⟩ h
  cases j with
  | none => cases j' with
    | none =>
      have h1 : c = c' := congrArg (fun x : GSem nD τ sig × ℕ × Bool => x.1.1.1) h
      subst h1; rfl
    | some k => exact absurd (congrArg (fun x : GSem nD τ sig × ℕ × Bool => x.2.2) h) (by intro h'; cases h')
  | some k => cases j' with
    | none => exact absurd (congrArg (fun x : GSem nD τ sig × ℕ × Bool => x.2.2) h) (by intro h'; cases h')
    | some k' =>
      have h1 := kcell_injective (congrArg (fun x : GSem nD τ sig × ℕ × Bool => x.1) h)
      have h2 : c = c' := congrArg Prod.fst h1
      have h3 : k = k' := congrArg Prod.snd h1
      rw [h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- A family over an optional index: its member at none, and the rest. -/
theorem bigSep_opt {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
      ext o; cases o <;> simp, bigSep_insert (by simp), bigSep_map]
  rfl

/-- A family over the transfers' cells, transfer by transfer. -/
theorem bigSep_Xc (Φ : Xc → sProp 𝕄) :
    bigSep Finset.univ Φ = bigSep Finset.univ fun x : Fin 4 × Fin 3 => iprop(Φ (x.1, x.2, false) ∗ Φ (x.1, x.2, true)) := by
  rw [bigSep_univ_prod, bigSep_univ_prod (fun x : Fin 4 × Fin 3 => iprop(Φ (x.1, x.2, false) ∗ Φ (x.1, x.2, true)))]
  refine bigSep_congr fun b _ => ?_
  rw [bigSep_univ_prod]
  refine bigSep_congr fun h _ => ?_
  exact bigSep_univ_eq_bigSepL [false, true] (by decide) (by decide) _

/-- The duties of device `c`'s own cells. -/
def toks (c : Dev nD) : sProp 𝕄 :=
  iprop(dutyTok ER (barCell c) 0 true ∗ dutyTok ER (barCell c) 0 false
    ∗ bigSep Finset.univ fun x : Fin 4 × Fin 3 => iprop(dutyTok ER (sndCell x.1 x.2 c) 0 false ∗ dutyTok ER (rcvCell x.1 x.2 c) 0 false))

/-- What the launch element deals device `c`. -/
def G (c : Dev nD) : sProp 𝕄 :=
  iprop((bigSep Finset.univ fun k : Option Xc => roundState ER (ringRd m ρ) (kcell (c, k)) 0)
    ∗ (bigSep Finset.univ fun k : Option Xc => atPos ER (kcell (c, k)) 0 ∅ 0)
    ∗ (bigSep Finset.univ fun k : Option Xc => reached ER (kcell (c, k)) 0) ∗ toks c)

/-- What the global step makes of it. -/
def G' (c : Dev nD) : sProp 𝕄 := iprop(∃ K, marks (F := F) m ρ K ∗ share c)

theorem toks_eq (c : Dev nD) : (bigSep Finset.univ fun j : Option (Option Xc) => (dutyTok ER (tokOf (c, j)).1 (tokOf (c, j)).2.1 (tokOf (c, j)).2.2 : sProp 𝕄)) = toks c := by
  rw [bigSep_opt, bigSep_opt, bigSep_Xc]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option Xc => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The transfers' semaphores at zero, transfer by transfer; -/
theorem ownSems0_eq (c : Dev nD) : (Pipeline.ownSems0 (Ix := Unit) (Name := ℕ) (U := UU) (Lvl := ℕ) (Val := Elt F) (τ := τ) osem c : sProp 𝕄) = overs c := by
  unfold Pipeline.ownSems0
  rw [bigSep_Xc]
  exact bigSep_univ_eq_bigSepL xfers (by decide) (by decide) (fun x : Fin 4 × Fin 3 => (over x.1 x.2 c : sProp 𝕄))
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Xc => semVal (kcell (c, k)) 0 : sProp 𝕄) := by
  rw [unscopedSems0_eq, bigSep_opt]
  iintro ⟨HS, HB⟩
  isplitl [HB]; · iexact HB
  unfold Pipeline.ownSems0
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Option Xc => iprop(∃ κ : ℕ, cellInv ER (ringRd m ρ) κ (kcell (c, k))))
          ∗ (bigSep Finset.univ fun k : Option Xc => atPos ER (kcell (c, k)) 0 ∅ 0)
          ∗ (bigSep Finset.univ fun k : Option Xc => reached ER (kcell (c, k)) 0) ∗ toks c) := by
  unfold G
  iintro ⟨Hos, Hus, Hst, Hrest⟩
  ihave Hv := (sems0_eq (F := F) c) $$ [Hos Hus]
  · isplitl [Hos] <;> iassumption
  imod (show iprop((bigSep Finset.univ fun k : Option Xc => semVal (kcell (c, k)) 0) ∗ bigSep Finset.univ fun k : Option Xc => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  iexact Hrest

/-- The duties a device pays. -/
def pays (c : Dev nD) : sProp 𝕄 :=
  iprop(dutyTok ER (barCell (prv c)) 0 true ∗ dutyTok ER (barCell (nxt c)) 0 false
    ∗ bigSep Finset.univ fun x : Fin 4 × Fin 3 => iprop(dutyTok ER (sndCell x.1 x.2 c) 0 false ∗ dutyTok ER (rcvCell x.1 x.2 (dst x.1 c)) 0 false))

/-- A family over the devices and the transfers does not change when each transfer's part is moved along the transfer. -/
theorem moved (Φ : Fin 4 × Fin 3 → Dev nD → sProp 𝕄) :
    (bigSep Finset.univ fun c : Dev nD => bigSep Finset.univ fun x : Fin 4 × Fin 3 => Φ x c)
      = bigSep Finset.univ fun c : Dev nD => bigSep Finset.univ fun x : Fin 4 × Fin 3 => Φ x (dst x.1 c) := by
  rw [bigSep_univ_comm, bigSep_univ_comm (fun (c : Dev nD) (x : Fin 4 × Fin 3) => Φ x (dst x.1 c))]
  exact bigSep_congr fun x _ => bigSep_univ_equiv (dstEquiv x.1) (Φ x)

/-- The duties dealt from the devices whose cells they fill to the devices that pay them. -/
theorem toks_around : (bigSep Finset.univ fun c : Dev nD => (toks c : sProp 𝕄)) ⊢ bigSep Finset.univ fun c : Dev nD => pays c := by
  unfold toks pays
  simp only [bigSep_sep']
  rw [bigSep_univ_equiv nxtEquiv (fun c : Dev nD => (dutyTok ER (barCell c) 0 false : sProp 𝕄)),
    bigSep_univ_equiv nxtEquiv.symm (fun c : Dev nD => (dutyTok ER (barCell c) 0 true : sProp 𝕄)),
    moved (fun x c => (dutyTok ER (rcvCell x.1 x.2 c) 0 false : sProp 𝕄))]
  iintro ⟨H1, H2, H3, H4⟩
  isplitl [H1]; · iexact H1
  isplitl [H2]; · iexact H2
  isplitl [H3]; · iexact H3
  iexact H4

theorem share_of (c : Dev nD) : iprop((bigSep Finset.univ fun k : Option Xc => atPos ER (kcell (c, k)) 0 ∅ 0) ∗ pays c) ⊢ (share c : sProp 𝕄) := by
  unfold pays share
  rw [bigSep_opt, bigSep_Xc]
  simp only [bigSep_sep']
  iintro ⟨⟨Ha, Hs, Hr⟩, Ht, Hf, Hds, Hdr⟩
  isplitl [Ht]; · iexact Ht
  isplitl [Hf]; · iexact Hf
  isplitl [Ha]; · iexact Ha
  isplitl [Hds]; · iexact Hds
  isplitl [Hdr]; · iexact Hdr
  isplitl [Hs]; · iexact Hs
  iexact Hr

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Option Xc → ℕ) (c : Dev nD) : iprop(marks (F := F) m ρ K ∗ share c) ⊢ G' m ρ c := by
  unfold G'; iintro H; iexists K; iexact H

theorem regroup :
    (bigSep Finset.univ fun c : Dev nD => iprop((bigSep Finset.univ fun k : Option Xc => iprop(∃ κ : ℕ, cellInv ER (ringRd m ρ) κ (kcell (c, k))))
          ∗ (bigSep Finset.univ fun k : Option Xc => atPos ER (kcell (c, k)) 0 ∅ 0)
          ∗ (bigSep Finset.univ fun k : Option Xc => reached ER (kcell (c, k)) 0) ∗ toks c) : sProp 𝕄)
      ⊢ bigSep Finset.univ (G' m ρ) := by
  rw [bigSep_sep', bigSep_sep', bigSep_sep', ← bigSep_univ_prod (fun ck : Dev nD × Option Xc => iprop(∃ κ : ℕ, cellInv ER (ringRd m ρ) κ (kcell ck))),
    ← bigSep_univ_prod (fun ck : Dev nD × Option Xc => (reached ER (kcell ck) 0 : sProp 𝕄))]
  iintro ⟨HI, Hat, HR, Htok⟩
  ihave HK := (BI.bigSep_exists_pi Finset.univ (fun (ck : Dev nD × Option Xc) (κ : ℕ) => (cellInv ER (ringRd m ρ) κ (kcell ck) : sProp 𝕄))) $$ HI
  icases HK with ⟨%K, HI⟩
  ihave Htk := (toks_around (F := F)) $$ Htok
  iapply (with_persistent (R := marks m ρ K) fun c _ => G'_intro m ρ K c)
  isplitl [HI HR]
  · unfold marks
    iapply (Entails.of_eq (bigSep_sep' Finset.univ _ _).symm)
    isplitl [HI]; · iexact HI
    iexact HR
  · iapply ((Entails.of_eq (bigSep_sep' Finset.univ _ _).symm).trans (bigSep_mono fun c _ => share_of (F := F) c))
    isplitl [Hat]; · iexact Hat
    iexact Htk

/-- The global step: every device's semaphores at once become the cells of the schedule. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem cred_dues (c : Dev nD) : ∀ l : List (Fin 4 × Fin 3), l.Nodup →
    (Pipeline.launchCred (fun d => dues d l) c : sProp 𝕄) ⊢ bigSep l.toFinset fun x => cred (tallyAt (rcvCell x.1 x.2 c) () N)
  | [], _ => by
    rw [show (fun d : Dev nD => dues d []) = fun _ => 0 from rfl, Pipeline.launchCred_zero, List.toFinset_nil, BI.bigSep_empty]; exact BI.Entails.refl _
  | x :: l, h => by
    rw [show (fun d : Dev nD => dues d (x :: l)) = fun d => dues d l + tallyAt (rcvCell x.1 x.2 (dst x.1 d)) () N from rfl,
      Pipeline.launchCred_add, List.toFinset_cons, bigSep_insert (by rw [List.mem_toFinset]; exact (List.nodup_cons.mp h).1)]
    show _ ⊢ (iprop(cred (tallyAt (rcvCell x.1 x.2 c) () N) ∗ bigSep l.toFinset fun x => cred (tallyAt (rcvCell x.1 x.2 c) () N)) : sProp 𝕄)
    iintro ⟨H1, H2⟩
    isplitl [H2]
    · iapply (Pipeline.launchCred_tallyAt (SemLoc.dma (rcvS x.1 x.2)) (dst x.1) (frm x.1) (dst_frm x.1) (frm_dst x.1) () N c); iexact H2
    · iapply (cred_dues c l (List.nodup_cons.mp h).2); iexact H1

theorem creds (c : Dev nD) : (Pipeline.launchCred O₀ c : sProp 𝕄) ⊢ dueTo c := by
  rw [show (O₀ : Dev nD → CellTallies nD τ sig Unit)
      = fun d => (fun d => (fun d => dues d xfers) d + (fun d => tallyAt (barCell (nxt d)) () 1) d) d + (fun d => tallyAt (barCell (prv d)) () 1) d from rfl,
    Pipeline.launchCred_add, Pipeline.launchCred_add]
  unfold dueTo
  iintro ⟨⟨H1, H2⟩, H3⟩
  ihave H2 := (Pipeline.launchCred_tallyAt (SemLoc.reg barS) nxt prv nxt_prv prv_nxt () 1 c) $$ H2
  ihave H3 := (Pipeline.launchCred_tallyAt (SemLoc.reg barS) prv nxt prv_nxt nxt_prv () 1 c) $$ H3
  isplitl [H2 H3]
  · rw [show (2 : ℕ) = 1 + 1 from rfl, ← tallyAt_add]
    iapply (cred_add _ _).2
    isplitl [H2] <;> iassumption
  · rw [show (Finset.univ : Finset (Fin 4 × Fin 3)) = xfers.toFinset from by decide]
    iapply (cred_dues (F := F) c xfers (by decide)); iexact H1

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨⟨HB, HS⟩, Hr⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of @main on the four devices terminates, and every final
    state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_a (c : Dev nD) : finalA m ρ c (0 : Fin 3) = (s₀ m ρ).mem (win0_0.arr.view.loc (c : Thread nD τ)) :=
  (dats (F := F) m ρ 0 c).arrAt_in (0 : Fin 3) rfl _
theorem finalA_b (c : Dev nD) : finalA m ρ c (1 : Fin 3) = (s₀ m ρ).mem (win0_1.arr.view.loc (c : Thread nD τ)) :=
  (dats (F := F) m ρ 0 c).arrAt_in (1 : Fin 3) rfl _

end Cert.KernelIdealProof

end
-- ==== Proof.KernelIdealValue.lean ====
/-
# 01_k — what the result is, on the extended reals
-/
module

public import proofs.«01_k».proof.Proof.KernelIdealRun
public import Idealize.ShloMosaic.Lib.Pipeline.ValueKit.Geometry
public import Idealize.ShloMosaic.Lib.MatmulPlain
public import Idealize.ShloMosaic.Lib.StackMember
public import Idealize.ShloMosaic.Lib.IdealHost
public import Idealize.ShloMosaic.Lib.Layout
public import Idealize.ShloMosaic.Lib.Pointwise.Sums

@[expose] public section

noncomputable section

namespace Cert.KernelIdealProof

open Cert.KernelIdeal Cert.KernelIdeal.Gen

open Idealize.ShloMosaic
open Idealize.ShloMosaic.TcCoe
open Idealize.SL Idealize.SL.RA Idealize.SL.Sem

/-! ## The result array -/

section AnyFloats
variable {F : FTy → Type} [FloatOps F]
variable (m : (ℓ : Loc nD τ sig) → Buf (Elt F) ℓ) (ρ : Dev nD → PrngReg)

/-- The result is written back whole, once: it ends at what the body left in its staging buffer. -/
theorem finalA_o (c : Dev nD) (j : S1536x1536.Idx) : finalA m ρ c (2 : Fin 3) j = outAt m ρ c j := by
  refine ((dats m ρ 0 c).arrAt_emb_eq_after_last (2 : Fin 3) t0_0 (by decide +kernel) j).trans ?_
  rw [after_o]
  generalize outAt m ρ c = X
  rfl

/-- The staged operands are the operands. -/
theorem stgA_is (c : Dev nD) : stgA m ρ c = m ((c : Thread nD τ).loc main_arg0) := by
  unfold stgA
  funext j
  show m ((c : Thread nD τ).loc main_arg0) _ = _
  refine congrArg (m ((c : Thread nD τ).loc main_arg0)) (funext fun a => Fin.ext ?_)
  fin_cases a
  · exact (congrArg (0 + ·) (Nat.one_mul _)).trans (Nat.zero_add _)
  · exact (congrArg (0 + ·) (Nat.one_mul _)).trans (Nat.zero_add _)
theorem stgB_is (c : Dev nD) : stgB m ρ c = m ((c : Thread nD τ).loc main_arg1) := by
  unfold stgB
  funext j
  show m ((c : Thread nD τ).loc main_arg1) _ = _
  refine congrArg (m ((c : Thread nD τ).loc main_arg1)) (funext fun a => Fin.ext ?_)
  fin_cases a
  · exact (congrArg (0 + ·) (Nat.one_mul _)).trans (Nat.zero_add _)
  · exact (congrArg (0 + ·) (Nat.one_mul _)).trans (Nat.zero_add _)

end AnyFloats

/-! ## The payloads at the ideal values -/

/-- The function at the end: `z / (1 + exp (-z))`. -/
def silu (x : EReal) : EReal := Ideal.div x (1 + Ideal.exp (-x))

/-- A slot's contents read as the kernel reads them. -/
theorem up_down (x : FVec Ideal S192x1536 .f32) : k0_pay28 (k0_pay14 x) = x := by
  unfold k0_pay28 k0_pay14
  exact shapeCast_shapeCast (s := S192x1536) (t := S1x192x1536) x _ _

theorem pay12_at (a : FVec Ideal S192x1536 .f32) (v : SlotV Ideal) (i : S192x1536.Idx) :
    k0_pay12 a v i = (a i + k0_pay28 v i : EReal) := rfl

theorem pay22_at (x : FVec Ideal S192x1536 .f32) (i : S192x1536.Idx) : k0_pay22 x i = silu (x i) := by
  show Ideal.div (x i) (Ideal.ofBits .f32 0x3F800000#32 + Ideal.exp (Ideal.ofBits .f32 0x00000000#32 - x i)) = _
  rw [Ideal.ofBits_one_f32, Ideal.ofBits_zero_f32, zero_sub]; rfl
theorem pay23_at (x : FVec Ideal S192x1536 .f32) (i : S192x1536.Idx) : k0_pay23 x i = silu (x i) := pay22_at x i
theorem pay1_at (x : FVec Ideal S192x1536 .f32) (i : S192x1536.Idx) : k0_pay1 x i = silu (x i) := pay22_at x i
theorem pay24_at (v : SlotV Ideal) (i : S192x1536.Idx) : k0_pay24 v i = silu (k0_pay28 v i) := pay22_at (k0_pay28 v) i
theorem pay25_at (v : SlotV Ideal) (i : S192x1536.Idx) : k0_pay25 v i = silu (k0_pay28 v i) := pay22_at (k0_pay28 v) i
theorem pay26_at (v : SlotV Ideal) (i : S192x1536.Idx) : k0_pay26 v i = silu (k0_pay28 v i) := pay22_at (k0_pay28 v) i
theorem pay27_at (v : SlotV Ideal) (i : S192x1536.Idx) : k0_pay27 v i = silu (k0_pay28 v i) := pay22_at (k0_pay28 v) i
theorem pay2_at (v : SlotV Ideal) (i : S192x1536.Idx) : k0_pay2 v i = silu (k0_pay28 v i) := pay22_at (k0_pay28 v) i

/-! ## The rings -/

variable (m : (ℓ : Loc nD τ sig) → Buf (Elt Ideal) ℓ) (ρ : Dev nD → PrngReg)

/-- One ring stays on one row block: what a device adds to is the same block's sum so far. -/
theorem ck_ring : ∀ (b : Fin 4) (h : Fin 3) (c : Dev nD), b.val < 2 → ck b h.val (frm b c) = ck b (h.val + 1) c := by decide

/-- The devices in the order a ring ending at `c` meets them, last first. -/
def seen (b : Fin 4) (c : Dev nD) : Fin 4 → Dev nD := ![c, frm b c, frm b (frm b c), frm b (frm b (frm b c))]
/-- They are all the devices, -/
theorem seen_all : ∀ (b : Fin 4) (c : Dev nD), Function.Bijective (seen b c) := by decide
/-- so a sum along the ring is the sum over the devices. -/
theorem sum_seen (b : Fin 4) (c : Dev nD) (f : Dev nD → EReal) :
    f c + (f (frm b c) + (f (frm b (frm b c)) + f (frm b (frm b (frm b c))))) = ∑ d : Dev nD, f d := by
  rw [← (seen_all b c).sum_comp f, Fin.sum_univ_four, add_assoc, add_assoc]; rfl

/-- The whole sum of row block `k`: over the devices. -/
def total (k : Fin 8) (i : S192x1536.Idx) : EReal := ∑ d : Dev nD, (mm m ρ d k i : EReal)

/-- The last step of a ring makes the whole sum. -/
theorem acc_total (b : Fin 4) (hb : b.val < 2) (c : Dev nD) (i : S192x1536.Idx) :
    k0_pay12 (mm m ρ c (ck b 3 c)) (rs m ρ b 2 (frm b c)) i = total m ρ (ck b 3 c) i := by
  have h2 : ck b 2 (frm b c) = ck b 3 c := ck_ring b 2 c hb
  have h1 : ck b 1 (frm b (frm b c)) = ck b 3 c := (ck_ring b 1 (frm b c) hb).trans h2
  have h0 : ck b 0 (frm b (frm b (frm b c))) = ck b 3 c := (ck_ring b 0 (frm b (frm b c)) hb).trans h1
  unfold total
  rw [← sum_seen b c, pay12_at]
  simp only [rs, up_down, pay12_at, h2, h1, h0]

theorem acc_0 (c : Dev nD) (i : S192x1536.Idx) : acc m ρ 0 2 c i = total m ρ (ck 0 3 c) i := acc_total m ρ 0 (by decide) c i
theorem acc_1 (c : Dev nD) (i : S192x1536.Idx) : acc m ρ 1 2 c i = total m ρ (ck 1 3 c) i := acc_total m ρ 1 (by decide) c i

/-- A ring's end as it is passed on. -/
theorem rs3_total (b : Fin 4) (hb : b.val < 2) (c : Dev nD) (i : S192x1536.Idx) :
    k0_pay28 (rs m ρ b 3 c) i = total m ρ (ck b 3 c) i := by
  rw [show rs m ρ b 3 c = k0_pay14 (k0_pay12 (mm m ρ c (ck b 3 c)) (rs m ρ b 2 (frm b c))) from rfl, up_down]
  exact acc_total m ρ b hb c i

/-- The same under the row block it is stored at. -/
theorem rs3_at (b : Fin 4) (hb : b.val < 2) (c : Dev nD) (k : Fin 8) (hk : ck b 3 c = k) (i : S192x1536.Idx) :
    k0_pay28 (rs m ρ b 3 c) i = total m ρ k i := hk ▸ rs3_total m ρ b hb c i

/-- The blocks the second rings bring, each under the row block it is stored at. -/
theorem ck_back : ∀ c : Dev nD, ck 0 3 (frm 0 c) = ck 0 0 c ∧ ck 1 3 (frm 1 c) = ck 1 0 c
    ∧ ck 0 3 (frm 0 (frm 0 c)) = ck 0 1 c ∧ ck 1 3 (frm 1 (frm 1 c)) = ck 1 1 c
    ∧ ck 0 3 (frm 0 (frm 0 (frm 0 c))) = ck 0 2 c ∧ ck 1 3 (frm 1 (frm 1 (frm 1 c))) = ck 1 2 c := by decide

theorem V_2_1 (c : Dev nD) (i : S192x1536.Idx) : k0_pay28 (V m ρ 2 1 c) i = total m ρ (ck 0 0 c) i :=
  rs3_at m ρ 0 (by decide) (frm 0 c) _ (ck_back c).1 i
theorem V_3_1 (c : Dev nD) (i : S192x1536.Idx) : k0_pay28 (V m ρ 3 1 c) i = total m ρ (ck 1 0 c) i :=
  rs3_at m ρ 1 (by decide) (frm 1 c) _ (ck_back c).2.1 i
theorem V_2_2 (c : Dev nD) (i : S192x1536.Idx) : k0_pay28 (V m ρ 2 2 c) i = total m ρ (ck 0 1 c) i :=
  rs3_at m ρ 0 (by decide) (frm 0 (frm 0 c)) _ (ck_back c).2.2.1 i
theorem V_3_2 (c : Dev nD) (i : S192x1536.Idx) : k0_pay28 (V m ρ 3 2 c) i = total m ρ (ck 1 1 c) i :=
  rs3_at m ρ 1 (by decide) (frm 1 (frm 1 c)) _ (ck_back c).2.2.2.1 i
theorem V_2_3 (c : Dev nD) (i : S192x1536.Idx) : k0_pay28 (V m ρ 2 3 c) i = total m ρ (ck 0 2 c) i :=
  rs3_at m ρ 0 (by decide) (frm 0 (frm 0 (frm 0 c))) _ (ck_back c).2.2.2.2.1 i
theorem V_3_3 (c : Dev nD) (i : S192x1536.Idx) : k0_pay28 (V m ρ 3 3 c) i = total m ρ (ck 1 2 c) i :=
  rs3_at m ρ 1 (by decide) (frm 1 (frm 1 (frm 1 c))) _ (ck_back c).2.2.2.2.2 i

/-- Every element of the result is the function of its whole sum, on every device. -/
theorem outF_total (c : Dev nD) (f : (cc0_stg2_0 : Ref sig .tc).ty.Contents (Elt Ideal)) (y : S1536x1536.Idx) :
    outF m ρ c f y = silu (total m ρ (rowOf y) (locOf y)) := by
  unfold outF
  simp only [outW_at]
  split
  next h => rw [pay2_at, V_3_3, h]
  split
  next h => rw [pay1_at, V_2_3, h]
  split
  next h => rw [pay27_at, V_3_2, h]
  split
  next h => rw [pay26_at, V_2_2, h]
  split
  next h => rw [pay25_at, V_3_1, h]
  split
  next h => rw [pay24_at, V_2_1, h]
  split
  next h => rw [pay23_at, acc_1, h]
  split
  next h => rw [pay22_at, acc_0, h]
  next h1 h2 h3 h4 h5 h6 h7 h8 =>
    rcases ck_cover c (rowOf y) with h | h | h | h | h | h | h | h <;> contradiction

/-- So the result array ends at it. -/
theorem finalA_total (c : Dev nD) (y : S1536x1536.Idx) : finalA m ρ c (2 : Fin 3) y = silu (total m ρ (rowOf y) (locOf y)) :=
  (finalA_o m ρ c y).trans (outF_total m ρ c _ y)

/-! ## The product -/

/-- The operands on device `c`, as extended reals. -/
def argA (c : Dev nD) : S1536x768.Idx → EReal := m ((c : Thread nD τ).loc main_arg0)
def argB (c : Dev nD) : S768x1536.Idx → EReal := m ((c : Thread nD τ).loc main_arg1)

/-- Row `i` of row block `k`. -/
def rowAt (k : Fin 8) (i : Fin 192) : Fin 1536 := ⟨192 * k.val + i.val, by have := k.isLt; have := i.isLt; omega⟩

theorem aAt_at (c : Dev nD) (k : Fin 8) (i : Fin 192) (t : Fin 768) :
    aAt m ρ c k (ValueIdx.ix2 i t) = argA m c (ValueIdx.ix2 (rowAt k i) t) := by
  unfold argA aAt
  rw [← stgA_is m ρ c]
  generalize stgA m ρ c = X
  show X _ = X _
  refine congrArg X (funext fun a => Fin.ext ?_)
  fin_cases a
  · show 192 * k.val + 1 * i.val = 192 * k.val + i.val
    rw [Nat.one_mul]
  · show 0 + 1 * t.val = t.val
    rw [Nat.one_mul, Nat.zero_add]

/-- A device's product at an element. -/
theorem mm_at (c : Dev nD) (k : Fin 8) (i : Fin 192) (j : Fin 1536) :
    (mm m ρ c k (ValueIdx.ix2 i j) : EReal) = ∑ t : Fin 768, argA m c (ValueIdx.ix2 (rowAt k i) t)
      * argB m c (ValueIdx.ix2 t j) := by
  unfold mm k0_pay6 k0_pay3
  rw [shapeCast_self, shapeCast_self]
  refine (Ideal.matmul_plain_apply (M := 192) (K := 768) (N := 1536) none (aAt m ρ c k) (stgB m ρ c) _ i j).trans ?_
  show Ideal.ofBits .f32 0x00000000#32 + _ = _
  rw [Ideal.ofBits_zero_f32, zero_add, stgB_is m ρ c]
  exact Finset.sum_congr rfl fun t _ => by rw [aAt_at]; rfl

/-- Each device holding its block of `X` along the columns and of `Y` along the rows, the whole sum is the product of
    `X` and `Y` there. -/
theorem total_dot (X : (⟨2, ![1536, 3072]⟩ : Shape).Idx → EReal) (Y : (⟨2, ![3072, 1536]⟩ : Shape).Idx → EReal)
    (hX : ∀ c : Dev nD, argA m c = Layout.block ⟨2, ![1536, 768]⟩ ⟨2, ![1536, 3072]⟩ 1 4 c X)
    (hY : ∀ c : Dev nD, argB m c = Layout.block ⟨2, ![768, 1536]⟩ ⟨2, ![3072, 1536]⟩ 0 4 c Y)
    (y : S1536x1536.Idx) :
    total m ρ (rowOf y) (locOf y) = ∑ t : Fin 3072, X (ValueIdx.ix2 (y 0) t) * Y (ValueIdx.ix2 t (y 1)) := by
  rw [Fin.sum_univ_tiles 4 768 rfl]
  unfold total
  refine Finset.sum_congr rfl fun d _ => ?_
  have hl : locOf y = ValueIdx.ix2 ⟨(y (0 : Fin 2)).val % 192, Nat.mod_lt _ (by decide)⟩ (y (1 : Fin 2)) := by
    funext a; apply Fin.ext
    fin_cases a <;> rfl
  have hr : rowAt (rowOf y) ⟨(y (0 : Fin 2)).val % 192, Nat.mod_lt _ (by decide)⟩ = y (0 : Fin 2) :=
    Fin.ext (Nat.div_add_mod _ _)
  rw [hl]
  refine (mm_at m ρ d (rowOf y) _ (y (1 : Fin 2))).trans ?_
  rw [hr]
  refine Finset.sum_congr rfl fun t _ => ?_
  rw [hX d, hY d]
  refine congrArg₂ (fun a b => (X a * Y b : EReal)) (funext fun a => Fin.ext ?_) (funext fun a => Fin.ext ?_)
  · fin_cases a <;> rfl
  · fin_cases a <;> rfl

end Cert.KernelIdealProof

end
-- ==== Proof.ReferenceIdealValue.lean ====
/-
# 01_k — what the reference's result is, on the extended reals
-/
module

public import proofs.«01_k».proof.Proof.KernelIdealValue
public import proofs.«01_k».proof.Proof.Gen.ReferenceIdeal
public import proofs.«01_k».proof.Proof.Gen.ReferenceIdeal.Run

@[expose] public section

noncomputable section

namespace Cert.ReferenceIdealProof

open Cert.ReferenceIdeal Cert.ReferenceIdeal.Gen
open Idealize.ShloMosaic

/-- The reference's result, from its two arguments. -/
def result (X : FVec Ideal S1536x3072 .bf16) (Y : FVec Ideal S3072x1536 .bf16) : FVec Ideal S1536x1536 .f32 :=
  extf .f32 (Host.divf (truncf .bf16 (Host.dotGeneral dot_S1536x3072_S3072x1536_S1536x1536_1_0_0_1_n_n none X Y) bitsLt_bf16_f32)
    (addf (broadcastInDim S1536x1536 ![] bcast_S_S1536x1536 (constant S_ .bf16 0x3F80#16))
      (Host.exp (Host.negf (truncf .bf16 (Host.dotGeneral dot_S1536x3072_S3072x1536_S1536x1536_1_0_0_1_n_n none X Y) bitsLt_bf16_f32)))))
    bitsLt_bf16_f32

/-- The reference's product at an element. -/
theorem dot_at (X : FVec Ideal S1536x3072 .bf16) (Y : FVec Ideal S3072x1536 .bf16) (y : S1536x1536.Idx) :
    (Host.dotGeneral (F := Ideal) dot_S1536x3072_S3072x1536_S1536x1536_1_0_0_1_n_n none X Y y : EReal)
      = ∑ t : Fin 3072, (show EReal from X (ValueIdx.ix2 (y 0) t)) * (show EReal from Y (ValueIdx.ix2 t (y 1))) := by
  have hy : y = ValueIdx.ix2 (n0 := 1536) (n1 := 1536) (y (0 : Fin 2)) (y (1 : Fin 2)) := by
    funext a; apply Fin.ext
    fin_cases a <;> rfl
  refine (congrArg _ hy).trans ?_
  exact StackMember.dotGeneral_plain_apply (m := 1536) (k := 3072) (n := 1536) none X Y (y (0 : Fin 2)) (y (1 : Fin 2))

/-- The result at an element: the same function of the product. -/
theorem result_at (X : FVec Ideal S1536x3072 .bf16) (Y : FVec Ideal S3072x1536 .bf16) (y : S1536x1536.Idx) :
    (result X Y y : EReal) = Cert.KernelIdealProof.silu
      (∑ t : Fin 3072, (show EReal from X (ValueIdx.ix2 (y 0) t)) * (show EReal from Y (ValueIdx.ix2 t (y 1)))) := by
  rw [← dot_at X Y y]
  unfold result
  generalize Host.dotGeneral (F := Ideal) dot_S1536x3072_S3072x1536_S1536x1536_1_0_0_1_n_n none X Y = Z
  show Ideal.div (Z y) (Ideal.ofBits .bf16 0x3F80#16 + Ideal.exp (-(Z y))) = _
  rw [Ideal.ofBits_one_bf16]; rfl

/-- The kernel's result on every device is the reference's. -/
theorem same (m : (ℓ : Loc Cert.KernelIdeal.nD Cert.KernelIdeal.τ Cert.KernelIdeal.sig) → Buf (Elt Ideal) ℓ)
    (ρ : Dev Cert.KernelIdeal.nD → PrngReg) (X : FVec Ideal S1536x3072 .bf16) (Y : FVec Ideal S3072x1536 .bf16)
    (hX : ∀ c : Dev Cert.KernelIdeal.nD, Cert.KernelIdealProof.argA m c = Layout.block ⟨2, ![1536, 768]⟩ ⟨2, ![1536, 3072]⟩ 1 4 c X)
    (hY : ∀ c : Dev Cert.KernelIdeal.nD, Cert.KernelIdealProof.argB m c = Layout.block ⟨2, ![768, 1536]⟩ ⟨2, ![3072, 1536]⟩ 0 4 c Y)
    (c : Dev Cert.KernelIdeal.nD) : Cert.KernelIdealProof.finalA m ρ c (2 : Fin 3) = result X Y := by
  funext y
  refine (Cert.KernelIdealProof.finalA_total m ρ c y).trans ?_
  rw [Cert.KernelIdealProof.total_dot m ρ X Y hX hY y]
  exact (result_at X Y y).symm

end Cert.ReferenceIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import proofs.«01_k».proof.Proof.ReferenceIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel on the machine's floats: it runs to the end, leaves its operands as they were and every counter at zero. -/
theorem quiescent_kernel : Cert.quiescent_Kernel (hKernel := Cert.Kernel.Gen.facts) := fun m g _ =>
  (θ_run Cert.Kernel.defs _ _).mono
    (fun _ h => ⟨fun c => ⟨(h.1 c (0 : Fin 3)).trans (Cert.KernelProof.finalA_a m g c), (h.1 c (1 : Fin 3)).trans (Cert.KernelProof.finalA_b m g c)⟩, h.2⟩)
    (Cert.KernelProof.run_main (F := Bits) m g)

/-- The same of the idealized kernel. -/
theorem quiescent_kernelIdeal : Cert.quiescent_KernelIdeal (hKernelIdeal := Cert.KernelIdeal.Gen.facts) := fun m g _ =>
  (θ_run Cert.KernelIdeal.defs _ _).mono
    (fun _ h => ⟨fun c => ⟨(h.1 c (0 : Fin 3)).trans (Cert.KernelIdealProof.finalA_a m g c), (h.1 c (1 : Fin 3)).trans (Cert.KernelIdealProof.finalA_b m g c)⟩, h.2⟩)
    (Cert.KernelIdealProof.run_main (F := Ideal) m g)

/-- The reference runs to the end and leaves its arguments as they were; it has no semaphore. -/
theorem quiescent_referenceIdeal : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems rfl _⟩)
    (Cert.ReferenceIdeal.Value.run (F := Ideal) m g)

/-- On the extended reals every device of the kernel ends with the reference's result. -/
theorem algebraic_kernelIdeal_referenceIdeal : Cert.algebraic_KernelIdeal_ReferenceIdeal
    (hKernelIdeal := Cert.KernelIdeal.Gen.facts) (hReferenceIdeal := Cert.ReferenceIdeal.Gen.facts) := fun m g m' g' _ hag =>
  ⟨Cert.ReferenceIdealProof.result
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans (Cert.ReferenceIdealProof.same m g _ _ (fun c => (hag c).1) (fun c => (hag c).2) c),
        (h.1 c (0 : Fin 3)).trans (Cert.KernelIdealProof.finalA_a m g c), (h.1 c (1 : Fin 3)).trans (Cert.KernelIdealProof.finalA_b m g c)⟩)
      (Cert.KernelIdealProof.run_main (F := Ideal) m g),
    (θ_run Cert.ReferenceIdeal.defs _ _).mono (fun _ h => h 0) (Cert.ReferenceIdeal.Value.run (F := Ideal) m' g')⟩

/-- All the claims. -/
theorem claim : Cert.Claim := ⟨Cert.Kernel.Gen.facts, Cert.KernelIdeal.Gen.facts, Cert.ReferenceIdeal.Gen.facts,
  quiescent_kernel, quiescent_kernelIdeal, quiescent_referenceIdeal, trivial, algebraic_kernelIdeal_referenceIdeal⟩

end Cert.Proof

end
